-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_and_wq_KernelIdeal [hPre_finite_x_and_wq_KernelIdeal : Cert.Pre_finite_x_and_wq_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_and_wq_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_and_wq_ReferenceIdeal [hPre_finite_x_and_wq_ReferenceIdeal : Cert.Pre_finite_x_and_wq_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_and_wq_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x_and_wq_KernelIdeal [hKernelIdeal : Cert.KernelIdeal.Facts] [hPre_finite_x_and_wq_KernelIdeal : Cert.Pre_finite_x_and_wq_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_and_wq_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x_and_wq_ReferenceIdeal [hReferenceIdeal : Cert.ReferenceIdeal.Facts] [hPre_finite_x_and_wq_ReferenceIdeal : Cert.Pre_finite_x_and_wq_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_and_wq_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_qs" .f32 0x3B4D4012#32 ((11863283 / 3787922432 : ℝ) : EReal)
  ∧ IdealRules.named_const.Statement Cert.KernelIdeal.κ "inv_qs" .f32 0x3D112245#32 ((131072 / 3699143 : ℝ) : EReal)

def algebraic_KernelIdeal_ReferenceIdeal_pre_finite_x_and_wq_KernelIdeal [hKernelIdeal : Cert.KernelIdeal.Facts] [hReferenceIdeal : Cert.ReferenceIdeal.Facts] [hPre_finite_x_and_wq_KernelIdeal : Cert.Pre_finite_x_and_wq_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_and_wq_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 8192, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = Layout.block ⟨3, ![1, 1024, 1024]⟩ ⟨3, ![1, 8192, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v56) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x_and_wq_KernelIdeal : Cert.Pre_finite_x_and_wq_KernelIdeal.Facts) (hPre_finite_x_and_wq_ReferenceIdeal : Cert.Pre_finite_x_and_wq_ReferenceIdeal.Facts),
    quiescent_Kernel (hKernel := hKernel)
    ∧ quiescent_KernelIdeal (hKernelIdeal := hKernelIdeal)
    ∧ quiescent_KernelIdeal_pre_finite_x_and_wq_KernelIdeal (hKernelIdeal := hKernelIdeal) (hPre_finite_x_and_wq_KernelIdeal := hPre_finite_x_and_wq_KernelIdeal)
    ∧ quiescent_ReferenceIdeal (hReferenceIdeal := hReferenceIdeal)
    ∧ quiescent_ReferenceIdeal_pre_finite_x_and_wq_ReferenceIdeal (hReferenceIdeal := hReferenceIdeal) (hPre_finite_x_and_wq_ReferenceIdeal := hPre_finite_x_and_wq_ReferenceIdeal)
    ∧ preserves_Kernel_KernelIdeal
    ∧ algebraic_KernelIdeal_ReferenceIdeal_pre_finite_x_and_wq_KernelIdeal (hKernelIdeal := hKernelIdeal) (hReferenceIdeal := hReferenceIdeal) (hPre_finite_x_and_wq_KernelIdeal := hPre_finite_x_and_wq_KernelIdeal)
-- ==== Pre_finite_x_and_wq_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pre_finite_x_and_wq_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x8192x1024 .f32) (main_arg1 : FVec F S1024x1024 .f32) (main_arg2 : FVec F S1x8192x8x128 .f32) (main_arg3 : FVec F S1x8192x8x128 .f32) (main_arg4 : FVec F S1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S8x1024x128 : Shape := ⟨3, ![8, 1024, 128]⟩
abbrev S8x128x1024 : Shape := ⟨3, ![8, 128, 1024]⟩
abbrev S3x16x1024x128 : Shape := ⟨4, ![3, 16, 1024, 128]⟩
abbrev S8x1024x1 : Shape := ⟨3, ![8, 1024, 1]⟩
abbrev S7 : Shape := ⟨1, ![7]⟩
abbrev S_ : Shape := ⟨0, ![]⟩
abbrev S1x8x1024x128 : Shape := ⟨4, ![1, 8, 1024, 128]⟩
abbrev S1024x1 : Shape := ⟨2, ![1024, 1]⟩
abbrev S1x1024 : Shape := ⟨2, ![1, 1024]⟩
abbrev S1 : Shape := ⟨1, ![1]⟩
abbrev S1x16x512x128 : Shape := ⟨4, ![1, 16, 512, 128]⟩
abbrev S16x512x128 : Shape := ⟨3, ![16, 512, 128]⟩
abbrev S1x1024x128 : Shape := ⟨3, ![1, 1024, 128]⟩
abbrev S1024x128 : Shape := ⟨2, ![1024, 128]⟩
abbrev S1x1x1024x128 : Shape := ⟨4, ![1, 1, 1024, 128]⟩
abbrev S1x1024x1 : Shape := ⟨3, ![1, 1024, 1]⟩
abbrev S1024 : Shape := ⟨1, ![1024]⟩
abbrev S1x128x1024 : Shape := ⟨3, ![1, 128, 1024]⟩
abbrev S128x1024 : Shape := ⟨2, ![128, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x8x128, .f32⟩
  | .hbm, ⟨8, _⟩ => ⟨S8x1024x128, .f32⟩
  | .hbm, ⟨9, _⟩ => ⟨S8x1024x128, .bf16⟩
  | .hbm, ⟨10, _⟩ => ⟨S1024x8x128, .f32⟩
  | .hbm, ⟨11, _⟩ => ⟨S8x1024x128, .f32⟩
  | .hbm, ⟨12, _⟩ => ⟨S8x1024x128, .bf16⟩
  | .hbm, ⟨13, _⟩ => ⟨S1024x8x128, .f32⟩
  | .hbm, ⟨14, _⟩ => ⟨S8x1024x128, .f32⟩
  | .hbm, ⟨15, _⟩ => ⟨S8x1024x128, .bf16⟩
  | .hbm, ⟨16, _⟩ => ⟨S8x128x1024, .f32⟩
  | .hbm, ⟨17, _⟩ => ⟨S8x128x1024, .bf16⟩
  | .hbm, ⟨18, _⟩ => ⟨S1024x1024, .f32⟩
  | .hbm, ⟨19, _⟩ => ⟨S1x1024x1024, .f32⟩
  | .local _ .vmem, ⟨0, _⟩ => ⟨S1024x1024, .bf16⟩
  | .local _ .vmem, ⟨1, _⟩ => ⟨S8x1024x128, .bf16⟩
  | .local _ .vmem, ⟨2, _⟩ => ⟨S8x1024x128, .bf16⟩
  | .local _ .vmem, ⟨3, _⟩ => ⟨S8x1024x128, .bf16⟩
  | .local _ .vmem, ⟨4, _⟩ => ⟨S8x128x1024, .bf16⟩
  | .local _ .vmem, ⟨5, _⟩ => ⟨S1024x1024, .f32⟩
  | .local _ .vmem, ⟨6, _⟩ => ⟨S3x16x1024x128, .i8⟩
  | .local _ .vmem, ⟨7, _⟩ => ⟨S8x1024x128, .bf16⟩
  | .local _ .vmem, ⟨8, _⟩ => ⟨S8x1024x128, .f32⟩
  | .local _ .vmem, ⟨9, _⟩ => ⟨S8x1024x1, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_33 : BitVec 32 := 1#32
  let v75 : BitVec 32 := Scalar.muli v6 c1_i32_33
  let v76 : BitVec 32 := Scalar.addi c0_i32_34 v75
  v76.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_45 : BitVec 32 := 1#32
  let v85 : BitVec 32 := Scalar.muli v4 c1_i32_45
  let v86 : BitVec 32 := Scalar.addi c0_i32_46 v85
  v86.toNat
@[reducible] def k0_t1_loop : Scf.Loop 32 :=
  let c0_i32_52 : BitVec 32 := 0#32
  let c8_i32_53 : BitVec 32 := 8#32
  let v95 : BitVec 32 := Scalar.addi c0_i32_52 c8_i32_53
  let c1_i32_54 : BitVec 32 := 1#32
  ⟨c0_i32_52, v95, c1_i32_54⟩
def k0_off1 (k0_t1 : Fin k0_t1_loop.trips) : Fin 3 → Nat :=
  let c0_i32_52 : BitVec 32 := 0#32
  let c1_i32_54 : BitVec 32 := 1#32
  let arg14 : BitVec 32 := Scf.iv c0_i32_52 c1_i32_54 k0_t1
  let v865 : Index := Scalar.indexCast arg14
  let c0_720 : Index := 0#32
  let c0_721 : Index := 0#32
  ![v865.toNat, 0, 0]
@[reducible] def k0_t2_loop : Scf.Loop 32 :=
  let c0_i32_83 : BitVec 32 := 0#32
  let c8_i32_84 : BitVec 32 := 8#32
  let v158 : BitVec 32 := Scalar.addi c0_i32_83 c8_i32_84
  let c1_i32_85 : BitVec 32 := 1#32
  ⟨c0_i32_83, v158, c1_i32_85⟩
def k0_off2 (k0_t2 : Fin k0_t2_loop.trips) : Fin 3 → Nat :=
  let c0_i32_83 : BitVec 32 := 0#32
  let c1_i32_85 : BitVec 32 := 1#32
  let arg14 : BitVec 32 := Scf.iv c0_i32_83 c1_i32_85 k0_t2
  let v863 : Index := Scalar.indexCast arg14
  let c0_718 : Index := 0#32
  let c0_719 : Index := 0#32
  ![v863.toNat, 0, 0]
def k0_off3 (k0_t2 : Fin k0_t2_loop.trips) : Fin 4 → Nat :=
  let c0_720 : Index := 0#32
  let c0_i32_83 : BitVec 32 := 0#32
  let c1_i32_85 : BitVec 32 := 1#32
  let arg14 : BitVec 32 := Scf.iv c0_i32_83 c1_i32_85 k0_t2
  let v866 : Index := Scalar.indexCast arg14
  let c0_721 : Index := 0#32
  let c0_722 : Index := 0#32
  ![0, v866.toNat, 0, 0]
def k0_off4 (k0_t2 : Fin k0_t2_loop.trips) : Fin 3 → Nat :=
  let c0_i32_83 : BitVec 32 := 0#32
  let c1_i32_85 : BitVec 32 := 1#32
  let arg14 : BitVec 32 := Scf.iv c0_i32_83 c1_i32_85 k0_t2
  let v875 : Index := Scalar.indexCast arg14
  let c0_725 : Index := 0#32
  let c0_726 : Index := 0#32
  ![v875.toNat, 0, 0]
def k0_off5 (k0_t2 : Fin k0_t2_loop.trips) : Fin 4 → Nat :=
  let c0_733 : Index := 0#32
  let c8_i32_732 : BitVec 32 := 8#32
  let c0_i32_83 : BitVec 32 := 0#32
  let c1_i32_85 : BitVec 32 := 1#32
  let arg14 : BitVec 32 := Scf.iv c0_i32_83 c1_i32_85 k0_t2
  let v889 : BitVec 32 := Scalar.addi c8_i32_732 arg14
  let v890 : Index := Scalar.indexCast v889
  let c0_734 : Index := 0#32
  let c0_735 : Index := 0#32
  ![0, v890.toNat, 0, 0]
def k0_dev5 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_137 : BitVec 32 := 1#32
  let v187 : BitVec 32 := Scalar.muli v6 c1_i32_137
  let v188 : BitVec 32 := Scalar.addi c0_i32_138 v187
  v188.toNat
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_149 : BitVec 32 := 1#32
  let v197 : BitVec 32 := Scalar.muli v4 c1_i32_149
  let v198 : BitVec 32 := Scalar.addi c0_i32_150 v197
  v198.toNat
@[reducible] def k0_t3_loop : Scf.Loop 32 :=
  let c0_i32_176 : BitVec 32 := 0#32
  let c8_i32_177 : BitVec 32 := 8#32
  let v261 : BitVec 32 := Scalar.addi c0_i32_176 c8_i32_177
  let c1_i32_178 : BitVec 32 := 1#32
  ⟨c0_i32_176, v261, c1_i32_178⟩
def k0_off6 (k0_t3 : Fin k0_t3_loop.trips) : Fin 3 → Nat :=
  let c0_i32_176 : BitVec 32 := 0#32
  let c1_i32_178 : BitVec 32 := 1#32
  let arg14 : BitVec 32 := Scf.iv c0_i32_176 c1_i32_178 k0_t3
  let v863 : Index := Scalar.indexCast arg14
  let c0_718 : Index := 0#32
  let c0_719 : Index := 0#32
  ![v863.toNat, 0, 0]
def k0_off7 (k0_t3 : Fin k0_t3_loop.trips) : Fin 4 → Nat :=
  let c1 : Index := 1#32
  let c0_i32_176 : BitVec 32 := 0#32
  let c1_i32_178 : BitVec 32 := 1#32
  let arg14 : BitVec 32 := Scf.iv c0_i32_176 c1_i32_178 k0_t3
  let v866 : Index := Scalar.indexCast arg14
  let c0_720 : Index := 0#32
  let c0_721 : Index := 0#32
  ![1, v866.toNat, 0, 0]
def k0_off8 (k0_t3 : Fin k0_t3_loop.trips) : Fin 3 → Nat :=
  let c0_i32_176 : BitVec 32 := 0#32
  let c1_i32_178 : BitVec 32 := 1#32
  let arg14 : BitVec 32 := Scf.iv c0_i32_176 c1_i32_178 k0_t3
  let v875 : Index := Scalar.indexCast arg14
  let c0_724 : Index := 0#32
  let c0_725 : Index := 0#32
  ![v875.toNat, 0, 0]
def k0_off9 (k0_t3 : Fin k0_t3_loop.trips) : Fin 4 → Nat :=
  let c1_732 : Index := 1#32
  let c8_i32_731 : BitVec 32 := 8#32
  let c0_i32_176 : BitVec 32 := 0#32
  let c1_i32_178 : BitVec 32 := 1#32
  let arg14 : BitVec 32 := Scf.iv c0_i32_176 c1_i32_178 k0_t3
  let v889 : BitVec 32 := Scalar.addi c8_i32_731 arg14
  let v890 : Index := Scalar.indexCast v889
  let c0_733 : Index := 0#32
  let c0_734 : Index := 0#32
  ![1, v890.toNat, 0, 0]
def k0_dev7 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_230 : BitVec 32 := 1#32
  let v290 : BitVec 32 := Scalar.muli v6 c1_i32_230
  let v291 : BitVec 32 := Scalar.addi c0_i32_231 v290
  v291.toNat
def k0_dev8 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_242 : BitVec 32 := 1#32
  let v300 : BitVec 32 := Scalar.muli v4 c1_i32_242
  let v301 : BitVec 32 := Scalar.addi c0_i32_243 v300
  v301.toNat
@[reducible] def k0_t4_loop : Scf.Loop 32 :=
  let c0_i32_269 : BitVec 32 := 0#32
  let c8_i32_270 : BitVec 32 := 8#32
  let v364 : BitVec 32 := Scalar.addi c0_i32_269 c8_i32_270
  let c1_i32_271 : BitVec 32 := 1#32
  ⟨c0_i32_269, v364, c1_i32_271⟩
def k0_off10 (k0_t4 : Fin k0_t4_loop.trips) : Fin 3 → Nat :=
  let c0_i32_269 : BitVec 32 := 0#32
  let c1_i32_271 : BitVec 32 := 1#32
  let arg14 : BitVec 32 := Scf.iv c0_i32_269 c1_i32_271 k0_t4
  let v863 : Index := Scalar.indexCast arg14
  let c0_718 : Index := 0#32
  let c0_719 : Index := 0#32
  ![v863.toNat, 0, 0]
def k0_off11 (k0_t4 : Fin k0_t4_loop.trips) : Fin 4 → Nat :=
  let c2 : Index := 2#32
  let c0_i32_269 : BitVec 32 := 0#32
  let c1_i32_271 : BitVec 32 := 1#32
  let arg14 : BitVec 32 := Scf.iv c0_i32_269 c1_i32_271 k0_t4
  let v866 : Index := Scalar.indexCast arg14
  let c0_720 : Index := 0#32
  let c0_721 : Index := 0#32
  ![2, v866.toNat, 0, 0]
def k0_off12 (k0_t4 : Fin k0_t4_loop.trips) : Fin 3 → Nat :=
  let c0_i32_269 : BitVec 32 := 0#32
  let c1_i32_271 : BitVec 32 := 1#32
  let arg14 : BitVec 32 := Scf.iv c0_i32_269 c1_i32_271 k0_t4
  let v875 : Index := Scalar.indexCast arg14
  let c0_724 : Index := 0#32
  let c0_725 : Index := 0#32
  ![v875.toNat, 0, 0]
def k0_off13 (k0_t4 : Fin k0_t4_loop.trips) : Fin 4 → Nat :=
  let c2_732 : Index := 2#32
  let c8_i32_731 : BitVec 32 := 8#32
  let c0_i32_269 : BitVec 32 := 0#32
  let c1_i32_271 : BitVec 32 := 1#32
  let arg14 : BitVec 32 := Scf.iv c0_i32_269 c1_i32_271 k0_t4
  let v889 : BitVec 32 := Scalar.addi c8_i32_731 arg14
  let v890 : Index := Scalar.indexCast v889
  let c0_733 : Index := 0#32
  let c0_734 : Index := 0#32
  ![2, v890.toNat, 0, 0]
def k0_dev9 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_323 : BitVec 32 := 1#32
  let v393 : BitVec 32 := Scalar.muli v6 c1_i32_323
  let v394 : BitVec 32 := Scalar.addi c0_i32_324 v393
  v394.toNat
def k0_dev10 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_335 : BitVec 32 := 1#32
  let v403 : BitVec 32 := Scalar.muli v4 c1_i32_335
  let v404 : BitVec 32 := Scalar.addi c0_i32_336 v403
  v404.toNat
@[reducible] def k0_t5_loop : Scf.Loop 32 :=
  let c0_i32_362 : BitVec 32 := 0#32
  let c8_i32_363 : BitVec 32 := 8#32
  let v467 : BitVec 32 := Scalar.addi c0_i32_362 c8_i32_363
  let c1_i32_364 : BitVec 32 := 1#32
  ⟨c0_i32_362, v467, c1_i32_364⟩
def k0_off14 (k0_t5 : Fin k0_t5_loop.trips) : Fin 3 → Nat :=
  let c0_i32_362 : BitVec 32 := 0#32
  let c1_i32_364 : BitVec 32 := 1#32
  let arg14 : BitVec 32 := Scf.iv c0_i32_362 c1_i32_364 k0_t5
  let v863 : Index := Scalar.indexCast arg14
  let c0_718 : Index := 0#32
  let c0_719 : Index := 0#32
  ![v863.toNat, 0, 0]
def k0_off15 (k0_t5 : Fin k0_t5_loop.trips) : Fin 4 → Nat :=
  let c0_720 : Index := 0#32
  let c0_i32_362 : BitVec 32 := 0#32
  let c1_i32_364 : BitVec 32 := 1#32
  let arg14 : BitVec 32 := Scf.iv c0_i32_362 c1_i32_364 k0_t5
  let v866 : Index := Scalar.indexCast arg14
  let c0_721 : Index := 0#32
  let c0_722 : Index := 0#32
  ![0, v866.toNat, 0, 0]
def k0_off16 (k0_t5 : Fin k0_t5_loop.trips) : Fin 3 → Nat :=
  let c0_i32_362 : BitVec 32 := 0#32
  let c1_i32_364 : BitVec 32 := 1#32
  let arg14 : BitVec 32 := Scf.iv c0_i32_362 c1_i32_364 k0_t5
  let v875 : Index := Scalar.indexCast arg14
  let c0_725 : Index := 0#32
  let c0_726 : Index := 0#32
  ![v875.toNat, 0, 0]
def k0_off17 (k0_t5 : Fin k0_t5_loop.trips) : Fin 4 → Nat :=
  let c0_733 : Index := 0#32
  let c8_i32_732 : BitVec 32 := 8#32
  let c0_i32_362 : BitVec 32 := 0#32
  let c1_i32_364 : BitVec 32 := 1#32
  let arg14 : BitVec 32 := Scf.iv c0_i32_362 c1_i32_364 k0_t5
  let v889 : BitVec 32 := Scalar.addi c8_i32_732 arg14
  let v890 : Index := Scalar.indexCast v889
  let c0_734 : Index := 0#32
  let c0_735 : Index := 0#32
  ![0, v890.toNat, 0, 0]
def k0_dev11 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_415 : BitVec 32 := 1#32
  let v496 : BitVec 32 := Scalar.muli v6 c1_i32_415
  let v497 : BitVec 32 := Scalar.addi c0_i32_416 v496
  v497.toNat
def k0_dev12 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_427 : BitVec 32 := 1#32
  let v506 : BitVec 32 := Scalar.muli v4 c1_i32_427
  let v507 : BitVec 32 := Scalar.addi c0_i32_428 v506
  v507.toNat
@[reducible] def k0_t6_loop : Scf.Loop 32 :=
  let c0_i32_454 : BitVec 32 := 0#32
  let c8_i32_455 : BitVec 32 := 8#32
  let v570 : BitVec 32 := Scalar.addi c0_i32_454 c8_i32_455
  let c1_i32_456 : BitVec 32 := 1#32
  ⟨c0_i32_454, v570, c1_i32_456⟩
def k0_off18 (k0_t6 : Fin k0_t6_loop.trips) : Fin 3 → Nat :=
  let c0_i32_454 : BitVec 32 := 0#32
  let c1_i32_456 : BitVec 32 := 1#32
  let arg14 : BitVec 32 := Scf.iv c0_i32_454 c1_i32_456 k0_t6
  let v863 : Index := Scalar.indexCast arg14
  let c0_718 : Index := 0#32
  let c0_719 : Index := 0#32
  ![v863.toNat, 0, 0]
def k0_off19 (k0_t6 : Fin k0_t6_loop.trips) : Fin 4 → Nat :=
  let c1 : Index := 1#32
  let c0_i32_454 : BitVec 32 := 0#32
  let c1_i32_456 : BitVec 32 := 1#32
  let arg14 : BitVec 32 := Scf.iv c0_i32_454 c1_i32_456 k0_t6
  let v866 : Index := Scalar.indexCast arg14
  let c0_720 : Index := 0#32
  let c0_721 : Index := 0#32
  ![1, v866.toNat, 0, 0]
def k0_off20 (k0_t6 : Fin k0_t6_loop.trips) : Fin 3 → Nat :=
  let c0_i32_454 : BitVec 32 := 0#32
  let c1_i32_456 : BitVec 32 := 1#32
  let arg14 : BitVec 32 := Scf.iv c0_i32_454 c1_i32_456 k0_t6
  let v875 : Index := Scalar.indexCast arg14
  let c0_724 : Index := 0#32
  let c0_725 : Index := 0#32
  ![v875.toNat, 0, 0]
def k0_off21 (k0_t6 : Fin k0_t6_loop.trips) : Fin 4 → Nat :=
  let c1_732 : Index := 1#32
  let c8_i32_731 : BitVec 32 := 8#32
  let c0_i32_454 : BitVec 32 := 0#32
  let c1_i32_456 : BitVec 32 := 1#32
  let arg14 : BitVec 32 := Scf.iv c0_i32_454 c1_i32_456 k0_t6
  let v889 : BitVec 32 := Scalar.addi c8_i32_731 arg14
  let v890 : Index := Scalar.indexCast v889
  let c0_733 : Index := 0#32
  let c0_734 : Index := 0#32
  ![1, v890.toNat, 0, 0]
def k0_dev13 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_507 : BitVec 32 := 1#32
  let v599 : BitVec 32 := Scalar.muli v6 c1_i32_507
  let v600 : BitVec 32 := Scalar.addi c0_i32_508 v599
  v600.toNat
def k0_dev14 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_519 : BitVec 32 := 1#32
  let v609 : BitVec 32 := Scalar.muli v4 c1_i32_519
  let v610 : BitVec 32 := Scalar.addi c0_i32_520 v609
  v610.toNat
@[reducible] def k0_t7_loop : Scf.Loop 32 :=
  let c0_i32_546 : BitVec 32 := 0#32
  let c8_i32_547 : BitVec 32 := 8#32
  let v673 : BitVec 32 := Scalar.addi c0_i32_546 c8_i32_547
  let c1_i32_548 : BitVec 32 := 1#32
  ⟨c0_i32_546, v673, c1_i32_548⟩
def k0_off22 (k0_t7 : Fin k0_t7_loop.trips) : Fin 3 → Nat :=
  let c0_i32_546 : BitVec 32 := 0#32
  let c1_i32_548 : BitVec 32 := 1#32
  let arg14 : BitVec 32 := Scf.iv c0_i32_546 c1_i32_548 k0_t7
  let v863 : Index := Scalar.indexCast arg14
  let c0_718 : Index := 0#32
  let c0_719 : Index := 0#32
  ![v863.toNat, 0, 0]
def k0_off23 (k0_t7 : Fin k0_t7_loop.trips) : Fin 4 → Nat :=
  let c2 : Index := 2#32
  let c0_i32_546 : BitVec 32 := 0#32
  let c1_i32_548 : BitVec 32 := 1#32
  let arg14 : BitVec 32 := Scf.iv c0_i32_546 c1_i32_548 k0_t7
  let v866 : Index := Scalar.indexCast arg14
  let c0_720 : Index := 0#32
  let c0_721 : Index := 0#32
  ![2, v866.toNat, 0, 0]
def k0_off24 (k0_t7 : Fin k0_t7_loop.trips) : Fin 3 → Nat :=
  let c0_i32_546 : BitVec 32 := 0#32
  let c1_i32_548 : BitVec 32 := 1#32
  let arg14 : BitVec 32 := Scf.iv c0_i32_546 c1_i32_548 k0_t7
  let v875 : Index := Scalar.indexCast arg14
  let c0_724 : Index := 0#32
  let c0_725 : Index := 0#32
  ![v875.toNat, 0, 0]
def k0_off25 (k0_t7 : Fin k0_t7_loop.trips) : Fin 4 → Nat :=
  let c2_732 : Index := 2#32
  let c8_i32_731 : BitVec 32 := 8#32
  let c0_i32_546 : BitVec 32 := 0#32
  let c1_i32_548 : BitVec 32 := 1#32
  let arg14 : BitVec 32 := Scf.iv c0_i32_546 c1_i32_548 k0_t7
  let v889 : BitVec 32 := Scalar.addi c8_i32_731 arg14
  let v890 : Index := Scalar.indexCast v889
  let c0_733 : Index := 0#32
  let c0_734 : Index := 0#32
  ![2, v890.toNat, 0, 0]
def k0_dev15 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_599 : BitVec 32 := 1#32
  let v702 : BitVec 32 := Scalar.muli v6 c1_i32_599
  let v703 : BitVec 32 := Scalar.addi c0_i32_600 v702
  v703.toNat
def k0_dev16 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_611 : BitVec 32 := 1#32
  let v712 : BitVec 32 := Scalar.muli v4 c1_i32_611
  let v713 : BitVec 32 := Scalar.addi c0_i32_612 v712
  v713.toNat
@[reducible] def k0_t8_loop : Scf.Loop 32 :=
  let c0_i32_638 : BitVec 32 := 0#32
  let c8_i32_639 : BitVec 32 := 8#32
  let v776 : BitVec 32 := Scalar.addi c0_i32_638 c8_i32_639
  let c1_i32_640 : BitVec 32 := 1#32
  ⟨c0_i32_638, v776, c1_i32_640⟩
def k0_off26 (k0_t8 : Fin k0_t8_loop.trips) : Fin 3 → Nat :=
  let c0_i32_638 : BitVec 32 := 0#32
  let c1_i32_640 : BitVec 32 := 1#32
  let arg14 : BitVec 32 := Scf.iv c0_i32_638 c1_i32_640 k0_t8
  let v863 : Index := Scalar.indexCast arg14
  let c0_718 : Index := 0#32
  let c0_719 : Index := 0#32
  ![v863.toNat, 0, 0]
def k0_off27 (k0_t8 : Fin k0_t8_loop.trips) : Fin 4 → Nat :=
  let c0_720 : Index := 0#32
  let c0_i32_638 : BitVec 32 := 0#32
  let c1_i32_640 : BitVec 32 := 1#32
  let arg14 : BitVec 32 := Scf.iv c0_i32_638 c1_i32_640 k0_t8
  let v866 : Index := Scalar.indexCast arg14
  let c0_721 : Index := 0#32
  let c0_722 : Index := 0#32
  ![0, v866.toNat, 0, 0]
def k0_off28 (k0_t8 : Fin k0_t8_loop.trips) : Fin 3 → Nat :=
  let c0_i32_638 : BitVec 32 := 0#32
  let c1_i32_640 : BitVec 32 := 1#32
  let arg14 : BitVec 32 := Scf.iv c0_i32_638 c1_i32_640 k0_t8
  let v875 : Index := Scalar.indexCast arg14
  let c0_725 : Index := 0#32
  let c0_726 : Index := 0#32
  ![v875.toNat, 0, 0]
def k0_off29 (k0_t8 : Fin k0_t8_loop.trips) : Fin 4 → Nat :=
  let c0_733 : Index := 0#32
  let c8_i32_732 : BitVec 32 := 8#32
  let c0_i32_638 : BitVec 32 := 0#32
  let c1_i32_640 : BitVec 32 := 1#32
  let arg14 : BitVec 32 := Scf.iv c0_i32_638 c1_i32_640 k0_t8
  let v889 : BitVec 32 := Scalar.addi c8_i32_732 arg14
  let v890 : Index := Scalar.indexCast v889
  let c0_734 : Index := 0#32
  let c0_735 : Index := 0#32
  ![0, v890.toNat, 0, 0]
@[reducible] def k0_t9_loop : Scf.Loop 32 :=
  let c0_i32_707 : BitVec 32 := 0#32
  let c8_i32_708 : BitVec 32 := 8#32
  let v859 : BitVec 32 := Scalar.addi c0_i32_707 c8_i32_708
  let c1_i32_709 : BitVec 32 := 1#32
  ⟨c0_i32_707, v859, c1_i32_709⟩
def k0_off30 (k0_t9 : Fin k0_t9_loop.trips) : Fin 3 → Nat :=
  let c0_i32_707 : BitVec 32 := 0#32
  let c1_i32_709 : BitVec 32 := 1#32
  let arg14 : BitVec 32 := Scf.iv c0_i32_707 c1_i32_709 k0_t9
  let v863 : Index := Scalar.indexCast arg14
  let c0_718 : Index := 0#32
  let c0_719 : Index := 0#32
  ![v863.toNat, 0, 0]
def k0_off31 (k0_t9 : Fin k0_t9_loop.trips) : Fin 4 → Nat :=
  let c1 : Index := 1#32
  let c0_i32_707 : BitVec 32 := 0#32
  let c1_i32_709 : BitVec 32 := 1#32
  let arg14 : BitVec 32 := Scf.iv c0_i32_707 c1_i32_709 k0_t9
  let v866 : Index := Scalar.indexCast arg14
  let c0_720 : Index := 0#32
  let c0_721 : Index := 0#32
  ![1, v866.toNat, 0, 0]
def k0_off32 (k0_t9 : Fin k0_t9_loop.trips) : Fin 3 → Nat :=
  let c0_i32_707 : BitVec 32 := 0#32
  let c1_i32_709 : BitVec 32 := 1#32
  let arg14 : BitVec 32 := Scf.iv c0_i32_707 c1_i32_709 k0_t9
  let v875 : Index := Scalar.indexCast arg14
  let c0_724 : Index := 0#32
  let c0_725 : Index := 0#32
  ![v875.toNat, 0, 0]
def k0_off33 (k0_t9 : Fin k0_t9_loop.trips) : Fin 4 → Nat :=
  let c1_732 : Index := 1#32
  let c8_i32_731 : BitVec 32 := 8#32
  let c0_i32_707 : BitVec 32 := 0#32
  let c1_i32_709 : BitVec 32 := 1#32
  let arg14 : BitVec 32 := Scf.iv c0_i32_707 c1_i32_709 k0_t9
  let v889 : BitVec 32 := Scalar.addi c8_i32_731 arg14
  let v890 : Index := Scalar.indexCast v889
  let c0_733 : Index := 0#32
  let c0_734 : Index := 0#32
  ![1, v890.toNat, 0, 0]
@[reducible] def k0_t10_loop : Scf.Loop 32 :=
  let c0_i32_714 : BitVec 32 := 0#32
  let c8_i32_715 : BitVec 32 := 8#32
  let v862 : BitVec 32 := Scalar.addi c0_i32_714 c8_i32_715
  let c1_i32_716 : BitVec 32 := 1#32
  ⟨c0_i32_714, v862, c1_i32_716⟩
def k0_off34 (k0_t10 : Fin k0_t10_loop.trips) : Fin 3 → Nat :=
  let c0_i32_714 : BitVec 32 := 0#32
  let c1_i32_716 : BitVec 32 := 1#32
  let arg14 : BitVec 32 := Scf.iv c0_i32_714 c1_i32_716 k0_t10
  let v863 : Index := Scalar.indexCast arg14
  let c0_718 : Index := 0#32
  let c0_719 : Index := 0#32
  ![v863.toNat, 0, 0]
def k0_off35 (k0_t10 : Fin k0_t10_loop.trips) : Fin 3 → Nat :=
  let c0_i32_714 : BitVec 32 := 0#32
  let c1_i32_716 : BitVec 32 := 1#32
  let arg14 : BitVec 32 := Scf.iv c0_i32_714 c1_i32_716 k0_t10
  let v868 : Index := Scalar.indexCast arg14
  let c0_721 : Index := 0#32
  let c0_722 : Index := 0#32
  ![v868.toNat, 0, 0]
def k0_off36 (k0_t10 : Fin k0_t10_loop.trips) : Fin 3 → Nat :=
  let c0_i32_714 : BitVec 32 := 0#32
  let c1_i32_716 : BitVec 32 := 1#32
  let arg14 : BitVec 32 := Scf.iv c0_i32_714 c1_i32_716 k0_t10
  let v876 : Index := Scalar.indexCast arg14
  let c0_725 : Index := 0#32
  let c0_726 : Index := 0#32
  ![v876.toNat, 0, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_qs" => some ((131072 / 3699143 : ℝ) : EReal)
  | "scale_qs" => some ((11863283 / 3787922432 : ℝ) : EReal)
  | _ => none
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 153
  | .vmem => 0
  | .smem => 0
  | _ => 0

abbrev hbmTy0_0 (i : Nat) : BufTy := match i % 128 with
  | 0 => ⟨S1x8192x1024, .f32⟩
  | 1 => ⟨S1024x1024, .f32⟩
  | 2 => ⟨S1x8192x8x128, .f32⟩
  | 3 => ⟨S1x8192x8x128, .f32⟩
  | 4 => ⟨S1024x1024, .f32⟩
  | 5 => ⟨S_, .f32⟩
  | 6 => ⟨S1x8192x8x128, .f32⟩
  | 7 => ⟨S1x8192x8x128, .f32⟩
  | 8 => ⟨S1x8192x8x128, .f32⟩
  | 9 => ⟨S_, .i32⟩
  | 10 => ⟨S_, .i32⟩
  | 11 => ⟨S_, .f32⟩
  | 12 => ⟨S1x8192x8x128, .f32⟩
  | 13 => ⟨S1x8192x8x128, .f32⟩
  | 14 => ⟨S_, .f32⟩
  | 15 => ⟨S1x8192x8x128, .f32⟩
  | 16 => ⟨S1x8192x8x128, .f32⟩
  | 17 => ⟨S_, .f32⟩
  | 18 => ⟨S1x8192x8x128, .f32⟩
  | 19 => ⟨S1x8192x8x128, .f32⟩
  | 20 => ⟨S_, .f32⟩
  | 21 => ⟨S1x8192x8x128, .f32⟩
  | 22 => ⟨S1x8192x8x128, .f32⟩
  | 23 => ⟨S1x8192x8x128, .f32⟩
  | 24 => ⟨S_, .i32⟩
  | 25 => ⟨S_, .i32⟩
  | 26 => ⟨S_, .f32⟩
  | 27 => ⟨S1x8192x8x128, .f32⟩
  | 28 => ⟨S1x8192x8x128, .f32⟩
  | 29 => ⟨S_, .f32⟩
  | 30 => ⟨S1x8192x8x128, .f32⟩
  | 31 => ⟨S1x8192x8x128, .f32⟩
  | 32 => ⟨S_, .f32⟩
  | 33 => ⟨S1x8192x8x128, .f32⟩
  | 34 => ⟨S1x8192x8x128, .f32⟩
  | 35 => ⟨S1x8192x1024, .f32⟩
  | 36 => ⟨S1x8192x8x128, .f32⟩
  | 37 => ⟨S8192, .i32⟩
  | 38 => ⟨S_, .i32⟩
  | 39 => ⟨S_, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i1⟩
  | 46 => ⟨S8192, .i32⟩
  | 47 => ⟨S8192, .i32⟩
  | 48 => ⟨S_, .i32⟩
  | 49 => ⟨S8192, .i32⟩
  | 50 => ⟨S8192, .i1⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S8192, .i32⟩
  | 58 => ⟨S_, .i32⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i1⟩
  | 66 => ⟨S8192, .i32⟩
  | 67 => ⟨S8192, .i32⟩
  | 68 => ⟨S_, .i32⟩
  | 69 => ⟨S8192, .i32⟩
  | 70 => ⟨S8192, .i1⟩
  | 71 => ⟨S8192, .i1⟩
  | 72 => ⟨S_, .i32⟩
  | 73 => ⟨S8192, .i32⟩
  | 74 => ⟨S8192, .i32⟩
  | 75 => ⟨S8192, .i32⟩
  | 76 => ⟨S1x8192, .i32⟩
  | 77 => ⟨S8192x8192, .i32⟩
  | 78 => ⟨S8192x8192, .i32⟩
  | 79 => ⟨S8192x8192, .i1⟩
  | 80 => ⟨S_, .i32⟩
  | 81 => ⟨S1x8192, .i32⟩
  | 82 => ⟨S1x8192, .i1⟩
  | 83 => ⟨S8192x8192, .i1⟩
  | 84 => ⟨S8192x8192, .i1⟩
  | 85 => ⟨S8192x8192, .i32⟩
  | 86 => ⟨S8192x8192, .i32⟩
  | 87 => ⟨S8192x8192, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S8192x8192, .i32⟩
  | 95 => ⟨S8192x8192, .i32⟩
  | 96 => ⟨S_, .i32⟩
  | 97 => ⟨S8192x8192, .i32⟩
  | 98 => ⟨S8192x8192, .i1⟩
  | 99 => ⟨S_, .i32⟩
  | 100 => ⟨S8192x8192, .i32⟩
  | 101 => ⟨S8192x8192, .i1⟩
  | 102 => ⟨S_, .i32⟩
  | 103 => ⟨S_, .i1⟩
  | 104 => ⟨S8192x8192, .i1⟩
  | 105 => ⟨S8192x8192, .i1⟩
  | 106 => ⟨S8192x8192, .i1⟩
  | 107 => ⟨S8192x8192, .i32⟩
  | 108 => ⟨S8192x8192, .i32⟩
  | 109 => ⟨S8192x8192, .i32⟩
  | 110 => ⟨S_, .i32⟩
  | 111 => ⟨S8192x8192, .i32⟩
  | 112 => ⟨S8192x8192, .i1⟩
  | 113 => ⟨S8192x8192, .i1⟩
  | 114 => ⟨S1x8x8192x8192, .f32⟩
  | 115 => ⟨S_, .f32⟩
  | 116 => ⟨S1x8x8192x8192, .f32⟩
  | 117 => ⟨S1x8x8192x8192, .f32⟩
  | 118 => ⟨S1x1x8192x8192, .i1⟩
  | 119 => ⟨S_, .f32⟩
  | 120 => ⟨S_, .f32⟩
  | 121 => ⟨S1x8x8192x8192, .i1⟩
  | 122 => ⟨S1x8x8192x8192, .f32⟩
  | 123 => ⟨S1x8x8192x8192, .f32⟩
  | 124 => ⟨S_, .f32⟩
  | 125 => ⟨S1x8x8192, .f32⟩
  | 126 => ⟨S1x8x8192x1, .f32⟩
  | 127 => ⟨S1x8x8192x8192, .f32⟩
  | _ => ⟨S1x8192x1024, .f32⟩

abbrev hbmTy0_1 (i : Nat) : BufTy := match i % 128 with
  | 0 => ⟨S1x8x8192x8192, .f32⟩
  | 1 => ⟨S1x8x8192x8192, .f32⟩
  | 2 => ⟨S_, .i1⟩
  | 3 => ⟨S8192, .i1⟩
  | 4 => ⟨S1x1x8192x1, .i1⟩
  | 5 => ⟨S_, .f32⟩
  | 6 => ⟨S1x8x8192, .f32⟩
  | 7 => ⟨S1x8x8192x1, .f32⟩
  | 8 => ⟨S_, .f32⟩
  | 9 => ⟨S_, .f32⟩
  | 10 => ⟨S1x8x8192x1, .i1⟩
  | 11 => ⟨S1x8x8192x1, .f32⟩
  | 12 => ⟨S1x8x8192x1, .f32⟩
  | 13 => ⟨S1x8x8192x8192, .f32⟩
  | 14 => ⟨S1x8x8192x8192, .f32⟩
  | 15 => ⟨S1x1x8192x1, .i1⟩
  | 16 => ⟨S_, .f32⟩
  | 17 => ⟨S_, .f32⟩
  | 18 => ⟨S1x8x8192x8192, .i1⟩
  | 19 => ⟨S1x8x8192x8192, .f32⟩
  | 20 => ⟨S1x8x8192x8192, .f32⟩
  | 21 => ⟨S1x8x128x8192, .f32⟩
  | 22 => ⟨S1x8192x8x128, .f32⟩
  | 23 => ⟨S1x8192x1024, .f32⟩
  | 24 => ⟨S1x8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_c_4 : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_v9 : Ref sig .tc := ⟨.hbm, 31, rfl⟩
abbrev main_cst_5 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_c : Ref sig .tc := ⟨.hbm, 48, rfl⟩
abbrev main_call4_v9 : Ref sig .tc := ⟨.hbm, 49, rfl⟩
abbrev main_call4_v10 : Ref sig .tc := ⟨.hbm, 50, rfl⟩
abbrev main_call4_v11 : Ref sig .tc := ⟨.hbm, 51, rfl⟩
abbrev main_call4_c_0 : Ref sig .tc := ⟨.hbm, 52, rfl⟩
abbrev main_call4_v12 : Ref sig .tc := ⟨.hbm, 53, rfl⟩
abbrev main_call4_v13 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_7 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_call5_v5 : Ref sig .tc := ⟨.hbm, 64, rfl⟩
abbrev main_call5_v6 : Ref sig .tc := ⟨.hbm, 65, rfl⟩
abbrev main_call5_v7 : Ref sig .tc := ⟨.hbm, 66, rfl⟩
abbrev main_call5_v8 : Ref sig .tc := ⟨.hbm, 67, rfl⟩
abbrev main_call5_c : Ref sig .tc := ⟨.hbm, 68, rfl⟩
abbrev main_call5_v9 : Ref sig .tc := ⟨.hbm, 69, rfl⟩
abbrev main_call5_v10 : Ref sig .tc := ⟨.hbm, 70, rfl⟩
abbrev main_call5_v11 : Ref sig .tc := ⟨.hbm, 71, rfl⟩
abbrev main_call5_c_0 : Ref sig .tc := ⟨.hbm, 72, rfl⟩
abbrev main_call5_v12 : Ref sig .tc := ⟨.hbm, 73, rfl⟩
abbrev main_call5_v13 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_c_8 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_c_9 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v30 : Ref sig .tc := ⟨.hbm, 109, rfl⟩
abbrev main_c_10 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_cst_11 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_cst_12 : Ref sig .tc := ⟨.hbm, 119, rfl⟩
abbrev main_call7_v0 : Ref sig .tc := ⟨.hbm, 120, rfl⟩
abbrev main_call7_v1 : Ref sig .tc := ⟨.hbm, 121, rfl⟩
abbrev main_call7_v2 : Ref sig .tc := ⟨.hbm, 122, rfl⟩
abbrev main_v38 : Ref sig .tc := ⟨.hbm, 123, rfl⟩
abbrev main_cst_13 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_c_14 : Ref sig .tc := ⟨.hbm, 130, rfl⟩
abbrev main_v44 : Ref sig .tc := ⟨.hbm, 131, rfl⟩
abbrev main_v45 : Ref sig .tc := ⟨.hbm, 132, rfl⟩
abbrev main_cst_15 : Ref sig .tc := ⟨.hbm, 133, rfl⟩
abbrev main_v46 : Ref sig .tc := ⟨.hbm, 134, rfl⟩
abbrev main_v47 : Ref sig .tc := ⟨.hbm, 135, rfl⟩
abbrev main_cst_16 : Ref sig .tc := ⟨.hbm, 136, rfl⟩
abbrev main_call8_v0 : Ref sig .tc := ⟨.hbm, 137, rfl⟩
abbrev main_call8_v1 : Ref sig .tc := ⟨.hbm, 138, rfl⟩
abbrev main_call8_v2 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_cst_17 : Ref sig .tc := ⟨.hbm, 144, rfl⟩
abbrev main_call9_v0 : Ref sig .tc := ⟨.hbm, 145, rfl⟩
abbrev main_call9_v1 : Ref sig .tc := ⟨.hbm, 146, rfl⟩
abbrev main_call9_v2 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩

abbrev nD : Nat := 1
abbrev τ : Topo := Topo.v7x

variable {F : FTy → Type} [FloatOps F]
-- ==== Proof.KernelIdealRing.lean ====
/-
  The protocol of the two-way ring exchange.

  Eight devices in a ring. Every device cuts its quantised block of keys and values in two halves of 512 rows, and sends the first half
  round the ring one way (direction 0) and the second half the other way (direction 1), in seven steps. A device keeps three slots for the
  pieces; a step reads slot `c % 3` and writes slot `(c + 1) % 3` of the neighbour.

  Before the first send a device hands its neighbours, through the barrier semaphore, the halves of its slots 1 and 2 they will write.
  From step 1 on a device gives the half slot it has done with to the neighbour that will write it next, together with the piece it sends
  to that neighbour; so a half slot is written only by who owns it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Pipeline.Regions
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `k` places up the stream of direction `b`: whose piece a device holds at step `k`. -/
def own (b : Fin 2) (k : ℕ) (d : Dev nD) : Dev nD := ⟨(d.val + (if b = 0 then 7 else 1) * k) % 8, Nat.mod_lt _ (by decide)⟩
/-- The neighbour a device sends to in direction `b`. -/
def nb (b : Fin 2) (d : Dev nD) : Dev nD := ⟨(d.val + (if b = 0 then 1 else 7)) % 8, Nat.mod_lt _ (by decide)⟩
/-- The other direction. -/
abbrev op (b : Fin 2) : Fin 2 := 1 - b

theorem op_op (b : Fin 2) : op (op b) = b := by revert b; decide
theorem nb_nb (b : Fin 2) (d : Dev nD) : nb (op b) (nb b d) = d := by revert b d; decide
theorem nb_nb' (b : Fin 2) (d : Dev nD) : nb b (nb (op b) d) = d := by revert b d; decide
theorem own_zero (b : Fin 2) (d : Dev nD) : own b 0 d = d := by revert b d; decide
theorem own_nb (b : Fin 2) (k : ℕ) (d : Dev nD) : own b (k + 1) (nb b d) = own b k d := by
  have hd : d.val < 8 := d.isLt
  apply Fin.ext
  rcases (by revert b; decide : b = 0 ∨ b = 1) with rfl | rfl <;> simp [own, nb] <;> omega

/-- Going round in direction `b`, as a permutation of the devices. -/
def ring (b : Fin 2) : Dev nD ≃ Dev nD := ⟨nb b, nb (op b), nb_nb b, nb_nb' b⟩

/-! ## Semaphores and cells -/

/-- A copy semaphore of the kernel: receive or send, direction, step. -/
abbrev Sx : Type := Bool × Fin 2 × Fin 7

abbrev barS : Sem sig := barrier0
def sx (k : Sx) : DmaSem sig := ⟨6 + (14 * k.2.1.val + (if k.1 then 7 else 0) + k.2.2.val), by
  have h1 := k.2.1.isLt; have h2 := k.2.2.isLt
  show _ < 34
  split <;> omega⟩
abbrev osem : Sx → SemLoc sig := fun k => .dma (sx k)
abbrev asem : Option Sx → SemLoc sig := fun | none => .reg barS | some k => osem k

theorem sx_inj : Function.Injective sx := by
  rintro ⟨r, b, c⟩ ⟨r', b', c'⟩ h
  have h' := congrArg Fin.val h
  have hb := b.isLt; have hb' := b'.isLt; have hc := c.isLt; have hc' := c'.isLt
  simp only [sx] at h'
  have e1 : b = b' := Fin.ext (by split at h' <;> split at h' <;> omega)
  subst e1
  have e2 : r = r' := by cases r <;> cases r' <;> simp at h' ⊢ <;> omega
  subst e2
  have e3 : c = c' := Fin.ext (by omega)
  subst e3; rfl

theorem asem_inj : Function.Injective asem := by
  rintro (_ | k) (_ | k') h
  · rfl
  · cases h
  · cases h
  · rw [sx_inj (SemLoc.dma.inj h)]

abbrev barCell (d : Dev nD) : GSem nD τ sig := ((d : Thread nD τ), .reg barS)
abbrev kcell (k : Sx) (d : Dev nD) : GSem nD τ sig := ((d : Thread nD τ), osem k)
abbrev sCell (b : Fin 2) (c : Fin 7) (d : Dev nD) : GSem nD τ sig := kcell (false, b, c) d
abbrev rCell (b : Fin 2) (c : Fin 7) (d : Dev nD) : GSem nD τ sig := kcell (true, b, c) d

/-- Which of the kernel's semaphores a semaphore is, if any. -/
def kind (s : SemLoc sig) : Option (Option Sx) := Function.partialInv asem s
theorem kind_bar : kind (.reg barS) = some none := Function.partialInv_left asem_inj none
theorem kind_osem (k : Sx) : kind (osem k) = some (some k) := Function.partialInv_left asem_inj (some k)
theorem kind_eq {s : SemLoc sig} {o : Option Sx} (h : kind s = some o) : s = asem o :=
  ((Function.partialInv_of_injective asem_inj) o s).1 h |>.symm

/-! ## The slots -/

abbrev kvM : Memref sig .tc .vmem S3x16x1024x128 .i8 := Memref.whole cc0_scratch0

theorem inb_half (b : Fin 2) (s : Fin 3) : ∀ a, (![s.val, 0, 512 * b.val, 0] : Fin 4 → ℕ) a + S1x16x512x128.size a ≤ S3x16x1024x128.size a := by
  revert b s; decide

/-- Half `b` of slot `s` as the kernel addresses it. -/
abbrev vh (b : Fin 2) (s : Fin 3) : Memref sig .tc .vmem S16x512x128 .i8 :=
  (kvM.slice (Rect.unit (s := S3x16x1024x128) ![s.val, 0, 512 * b.val, 0] S1x16x512x128.size (inb_half b s)) (fun _ => rfl)).squeeze
    S16x512x128 squeezes_S1x16x512x128_S16x512x128

abbrev N : ℕ := (vh 0 0).view.dmaCredit
theorem N_eq (b : Fin 2) (s : Fin 3) : (vh b s).view.dmaCredit = N := rfl
theorem N_pos : 0 < N := View.dmaCredit_pos _ (by decide)

abbrev KvIdx : Type := (cc0_scratch0 : Ref sig .tc).ty.shape.Idx
/-- The contents of the buffer of three slots. -/
abbrev Kv (F : FTy → Type) : Type := (cc0_scratch0 : Ref sig .tc).ty.Contents (Elt F)
/-- One slot's worth. -/
abbrev Piece (F : FTy → Type) : Type := (⟨3, ![16, 1024, 128]⟩ : Shape).Idx → Elt F .i8

/-- The elements of half `b` of slot `s`, and of slot `s`. -/
def hset (b : Fin 2) (s : Fin 3) : Finset KvIdx := Finset.univ.filter fun i => (i 0).val = s.val ∧ 512 * b.val ≤ (i 2).val ∧ (i 2).val < 512 * b.val + 512
def sset (s : Fin 3) : Finset KvIdx := Finset.univ.filter fun i => (i 0).val = s.val

theorem vh_set (b : Fin 2) (s : Fin 3) : (vh b s).view.set = hset b s := by
  show (((View.whole cc0_scratch0).slice _).reshape _ _).set = _
  rw [View.set_reshape, View.set_slice_whole]
  ext i
  rw [Rect.mem_set_unit]
  unfold hset
  rw [Finset.mem_filter]
  constructor
  · intro h
    have h0 := h 0; have h2 := h 2
    refine ⟨Finset.mem_univ _, ?_, h2.1, h2.2⟩
    have e1 : s.val ≤ (i 0).val := h0.1
    have e2 : (i 0).val < s.val + 1 := h0.2
    omega
  · rintro ⟨-, h0, h1, h2⟩ a
    fin_cases a
    · exact ⟨le_of_eq h0.symm, by show (i 0).val < s.val + 1; omega⟩
    · exact ⟨Nat.zero_le _, by show (i 1).val < 0 + 16; have h : (i 1).val < 16 := (i 1).isLt; omega⟩
    · exact ⟨h1, h2⟩
    · exact ⟨Nat.zero_le _, by show (i 3).val < 0 + 128; have h : (i 3).val < 128 := (i 3).isLt; omega⟩

/-! ## Contents of the slots -/

/-- The slot a step reads. -/
def sl (c : ℕ) : Fin 3 := ⟨c % 3, Nat.mod_lt _ (by decide)⟩

/-- An element's place within its slot. -/
def drop (i : KvIdx) : (⟨3, ![16, 1024, 128]⟩ : Shape).Idx := fun a => match a with | 0 => i 1 | 1 => i 2 | 2 => i 3

/-- Every slot at piece `P`. -/
def spread (P : Piece F) : Kv F := fun i => P (drop i)
/-- Every slot at the first half of `A` and the second of `B`. -/
def mix (A B : Piece F) : Kv F := fun i => if (i 2).val < 512 then A (drop i) else B (drop i)

theorem vh_emb (b : Fin 2) (s : Fin 3) (x : S16x512x128.Idx) :
    ∃ y : S1x16x512x128.Idx, ∀ s', ((((vh b s').view.emb x : KvIdx) 0).val = s'.val + (y 0).val) ∧ ∀ a : Fin 3, (((vh b s').view.emb x : KvIdx) a.succ).val
      = (![0, 512 * b.val, 0] : Fin 3 → ℕ) a + (y a.succ).val := by
  refine ⟨Shape.reshapeEquiv squeezes_S1x16x512x128_S16x512x128.numel_eq x, fun s' => ⟨?_, fun a => ?_⟩⟩
  · show s'.val + 1 * _ = _; rw [Nat.one_mul]; rfl
  · fin_cases a
    · show 0 + 1 * _ = 0 + _; rw [Nat.one_mul]; rfl
    · show 512 * b.val + 1 * _ = 512 * b.val + _; rw [Nat.one_mul]; rfl
    · show 0 + 1 * _ = 0 + _; rw [Nat.one_mul]; rfl

theorem drop_emb (b : Fin 2) (s s' : Fin 3) (x : S16x512x128.Idx) : drop ((vh b s).view.emb x) = drop ((vh b s').view.emb x) := by
  obtain ⟨y, hy⟩ := vh_emb b s x
  have h1 := (hy s).2; have h2 := (hy s').2
  funext a
  fin_cases a
  · exact Fin.ext ((h1 0).trans (h2 0).symm)
  · exact Fin.ext ((h1 1).trans (h2 1).symm)
  · exact Fin.ext ((h1 2).trans (h2 2).symm)

/-- A half slot copied to the same half of another slot: the piece's half arrives. -/
theorem landed (b : Fin 2) (s s' : Fin 3) (P : Piece F) (fd : Kv F) :
    ∀ i ∈ (vh b s').view.set, (vh b s').view.write (Elt F) fd ((vh b s).view.read (Elt F) (spread P)) Finset.univ i = spread P i := by
  intro i hi
  obtain ⟨x, -, rfl⟩ := Finset.mem_map.1 hi
  rw [View.write_emb_of_mem _ _ (Finset.mem_univ x)]
  show P (drop ((vh b s).view.emb x)) = P (drop ((vh b s').view.emb x))
  rw [drop_emb b s s']

theorem half_disjoint (s : Fin 3) : Disjoint (hset 0 s) (hset 1 s) := by
  rw [Finset.disjoint_left]
  intro i h0 h1
  unfold hset at h0 h1
  rw [Finset.mem_filter] at h0 h1
  have := h0.2.2.2; have := h1.2.2.1
  simp at *
  omega

theorem half_union (s : Fin 3) : hset 0 s ∪ hset 1 s = sset s := by
  ext i
  unfold hset sset
  rw [Finset.mem_union, Finset.mem_filter, Finset.mem_filter, Finset.mem_filter]
  have h : (i 2).val < 1024 := (i 2).isLt
  simp only [Finset.mem_univ, true_and]
  constructor
  · rintro (⟨h, -⟩ | ⟨h, -⟩) <;> exact h
  · intro h0
    by_cases h2 : (i 2).val < 512
    · exact .inl ⟨h0, by simp, by simpa using h2⟩
    · exact .inr ⟨h0, by simp; omega, by simp; omega⟩

theorem slot_disjoint {s s' : Fin 3} (h : s ≠ s') : Disjoint (sset s) (sset s') := by
  rw [Finset.disjoint_left]
  intro i h0 h1
  unfold sset at h0 h1
  rw [Finset.mem_filter] at h0 h1
  exact h (Fin.ext (h0.2.symm.trans h1.2))

theorem slot_union : (Finset.univ : Finset (Fin 3)).biUnion sset = Finset.univ := by
  ext i
  simp only [Finset.mem_biUnion, Finset.mem_univ, true_and, iff_true]
  exact ⟨⟨(i 0).val, (i 0).isLt⟩, by unfold sset; rw [Finset.mem_filter]; exact ⟨Finset.mem_univ _, rfl⟩⟩

abbrev kvLoc (d : Dev nD) : Loc nD τ sig := (d : Thread nD τ).loc cc0_scratch0

/-- Half `b` of slot `s` of device `d`, at share `q` and contents `f`. -/
def hPts (b : Fin 2) (s : Fin 3) (q : PosShare TreeShare) (d : Dev nD) (f : Buf (Elt F) (kvLoc d)) : sProp 𝕄 :=
  kvLoc d ↦[hset b s]{q} f
/-- Slot `s` of device `d`. -/
def sPts (s : Fin 3) (q : PosShare TreeShare) (d : Dev nD) (f : Buf (Elt F) (kvLoc d)) : sProp 𝕄 :=
  kvLoc d ↦[sset s]{q} f

instance hPts_storable (b : Fin 2) (s : Fin 3) (q) (d : Dev nD) (f) : BI.Storable (upEmb : UEmb _ 𝕄) (hPts (F := F) b s q d f) := by
  unfold hPts; infer_instance

theorem hPts_view (b : Fin 2) (s : Fin 3) (q : PosShare TreeShare) (d : Dev nD) (f : Kv F) :
    (hPts b s q d f : sProp 𝕄) = ((vh b s).view.loc (d : Thread nD τ) ↦[(vh b s).view.set]{q} f) := by
  unfold hPts; rw [vh_set]

theorem slot_split (s : Fin 3) (q : PosShare TreeShare) (d : Dev nD) (f : Kv F) :
    (sPts s q d f : sProp 𝕄) ⊣⊢ iprop(hPts 0 s q d f ∗ hPts 1 s q d f) := by
  unfold sPts hPts; rw [← half_union]; exact pointsTo_union (half_disjoint s)

theorem slot_join (s : Fin 3) (q : PosShare TreeShare) (d : Dev nD) (A B : Piece F) :
    (sPts s q d (mix A B) : sProp 𝕄) ⊣⊢ iprop(hPts 0 s q d (spread A) ∗ hPts 1 s q d (spread B)) := by
  have h0 : (hPts 0 s q d (spread A) : sProp 𝕄) = hPts 0 s q d (mix A B) := by
    unfold hPts
    refine pointsTo_congr fun i hi => ?_
    unfold hset at hi; rw [Finset.mem_filter] at hi
    have h := hi.2.2.2
    exact (if_pos (by simpa using h)).symm
  have h1 : (hPts 1 s q d (spread B) : sProp 𝕄) = hPts 1 s q d (mix A B) := by
    unfold hPts
    refine pointsTo_congr fun i hi => ?_
    unfold hset at hi; rw [Finset.mem_filter] at hi
    have h := hi.2.2.1
    exact (if_neg (by simp at h; omega)).symm
  rw [h0, h1]; exact slot_split s q d _

theorem half_share (b : Fin 2) (s : Fin 3) (d : Dev nD) (f : Kv F) :
    (hPts b s fullShare d f : sProp 𝕄) ⊣⊢ iprop(hPts b s fullShare.left d f ∗ hPts b s fullShare.right d f) := by
  unfold hPts; exact pointsTo_share (PosShare.mem_left_op_right fullShare)

/-- The whole buffer is its three slots. -/
theorem slots_split (d : Dev nD) (f : Kv F) :
    ((kvLoc d ↦{fullShare} f : sProp 𝕄)) = iprop(sPts 0 fullShare d f ∗ sPts 1 fullShare d f ∗ sPts 2 fullShare d f) := by
  rw [← slot_union, pointsTo_biUnion _ _ (fun t _ t' _ h => slot_disjoint h),
    bigSep_univ_eq_bigSepL [0, 1, 2] (by decide) (by decide)]
  rfl

theorem slots_join (d : Dev nD) (f0 f1 f2 : Kv F) :
    iprop(sPts 0 fullShare d f0 ∗ sPts 1 fullShare d f1 ∗ sPts 2 fullShare d f2) ⊢ (iprop(∃ f : Kv F, kvLoc d ↦{fullShare} f) : sProp 𝕄) := by
  have h (s : Fin 3) (f : Kv F) (hf : ∀ i ∈ sset s, f i = (![f0, f1, f2] : Fin 3 → Kv F) ⟨(i 0).val, (i 0).isLt⟩ i) :
      (sPts s fullShare d f : sProp 𝕄) = sPts s fullShare d fun i => (![f0, f1, f2] : Fin 3 → Kv F) ⟨(i 0).val, (i 0).isLt⟩ i := by
    unfold sPts; exact pointsTo_congr hf
  have g (s : Fin 3) {i : KvIdx} (hi : i ∈ sset s) : (⟨(i 0).val, (i 0).isLt⟩ : Fin 3) = s := by
    unfold sset at hi; rw [Finset.mem_filter] at hi; exact Fin.ext hi.2
  rw [h 0 f0 (fun i hi => by rw [g 0 hi]; rfl), h 1 f1 (fun i hi => by rw [g 1 hi]; rfl), h 2 f2 (fun i hi => by rw [g 2 hi]; rfl), ← slots_split]
  iintro H
  iexists _
  iexact H

end Cert.KernelIdealProof
-- ==== Proof.KernelIdealSched.lean ====
/-
  What every semaphore of the ring exchange stands for: who signals it, how much, and which memory changes hands with the signal.
-/
module

public import proofs.«01_k».proof.Proof.KernelIdealRing

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (pc : Dev nD → Piece F)

/-! ## What is handed over -/

/-- With the barrier signal that allows device `d` to send in direction `b`: half `b` of slots 1 and 2 of the neighbour it sends to, and
    that the neighbour's receive semaphores of this direction are ready. -/
def barPay (b : Fin 2) (d : Dev nD) : sProp 𝕄 :=
  iprop((∃ f, hPts b 1 fullShare (nb b d) f) ∗ (∃ f, hPts b 2 fullShare (nb b d) f)
    ∗ bigSep Finset.univ fun c : Fin 7 => reached ER (rCell b c (nb b d)) 0)

/-- With the piece sent to `d` in direction `b` at step `c`: the sender's half slot that `d` writes at the next step. -/
def fbPay (b : Fin 2) (c : Fin 7) (d : Dev nD) : sProp 𝕄 :=
  if 1 ≤ c.val ∧ c.val ≤ 5 then iprop(∃ f, hPts (op b) (sl (c.val + 2)) fullShare (nb (op b) d) f) else iprop(emp)

/-- With the arrival of the piece of step `c`: the piece, and the sender's half slot. -/
def recvPay (b : Fin 2) (c : Fin 7) (d : Dev nD) : sProp 𝕄 :=
  iprop(hPts b (sl (c.val + 1)) fullShare d (spread (pc (own b (c.val + 1) d))) ∗ fbPay b c d)

/-- With the departure of the piece of step `c`: the share of it lent to the copy. -/
def sendPay (b : Fin 2) (c : Fin 7) (d : Dev nD) : sProp 𝕄 :=
  hPts b (sl c.val) fullShare.left d (spread (pc (own b c.val d)))

instance barPay_storable (b : Fin 2) (d : Dev nD) : BI.Storable (upEmb : UEmb _ 𝕄) (barPay (F := F) b d) := by
  unfold barPay; infer_instance
instance fbPay_storable (b : Fin 2) (c : Fin 7) (d : Dev nD) : BI.Storable (upEmb : UEmb _ 𝕄) (fbPay (F := F) b c d) := by
  unfold fbPay; split <;> infer_instance
instance recvPay_storable (b : Fin 2) (c : Fin 7) (d : Dev nD) : BI.Storable (upEmb : UEmb _ 𝕄) (recvPay pc b c d) := by
  unfold recvPay; infer_instance
instance sendPay_storable (b : Fin 2) (c : Fin 7) (d : Dev nD) : BI.Storable (upEmb : UEmb _ 𝕄) (sendPay pc b c d) := by
  unfold sendPay; infer_instance

/-! ## The schedule -/

def dutiesOf : Option (Option Sx) → Finset (Fin 2)
  | none => ∅
  | some none => Finset.univ
  | some (some _) => {0}

def amountOf : Option (Option Sx) → ℕ
  | some none => 1
  | _ => N

def payOf (d : Dev nD) (e : Fin 2) : Option (Option Sx) → sProp 𝕄
  | none => iprop(emp)
  | some none => barPay e d
  | some (some (false, b, c)) => sendPay pc b c d
  | some (some (true, b, c)) => recvPay pc b c d

def sched : Rounds.Schedule (GSem nD τ sig) (Fin 2) 𝕄 where
  duties g r := if r = 0 ∧ g.1.2 = .tc then dutiesOf (kind g.2) else ∅
  unitless _ := False
  amount g _ _ := amountOf (kind g.2)
  payload g _ e := payOf pc g.1.1 e (kind g.2)
  amount_pos g _ _ _ := by
    rcases kind g.2 with _ | (_ | k)
    · exact N_pos
    · exact Nat.one_pos
    · exact N_pos

instance sched_storable (g : GSem nD τ sig) (r : ℕ) (e : Fin 2) : BI.Storable (upEmb : UEmb _ 𝕄) ((sched pc).payload g r e) := by
  show BI.Storable upEmb (payOf pc g.1.1 e (kind g.2))
  rcases kind g.2 with _ | (_ | ⟨(_ | _), b, c⟩) <;> unfold payOf <;> infer_instance

variable (d : Dev nD)

theorem duties_bar : (sched pc).duties (barCell d) 0 = Finset.univ := by
  dsimp only [sched]; rw [if_pos ⟨rfl, rfl⟩, kind_bar]; rfl
theorem duties_k (k : Sx) : (sched pc).duties (kcell k d) 0 = {0} := by
  dsimp only [sched]; rw [if_pos ⟨rfl, rfl⟩, kind_osem]; rfl
theorem duties_later (g : GSem nD τ sig) : ∀ r, 1 ≤ r → (sched pc).duties g r = ∅ :=
  fun r hr => by dsimp only [sched]; rw [if_neg (fun h => by omega)]
theorem amount_bar (r : ℕ) (e : Fin 2) : (sched pc).amount (barCell d) r e = 1 := by dsimp only [sched]; rw [kind_bar]; rfl
theorem amount_k (k : Sx) (r : ℕ) (e : Fin 2) : (sched pc).amount (kcell k d) r e = N := by dsimp only [sched]; rw [kind_osem]; rfl
theorem payload_bar (r : ℕ) (e : Fin 2) : (sched pc).payload (barCell d) r e = barPay e d := by dsimp only [sched]; rw [kind_bar]; rfl
theorem payload_s (b : Fin 2) (c : Fin 7) (r : ℕ) (e : Fin 2) : (sched pc).payload (sCell b c d) r e = sendPay pc b c d := by
  dsimp only [sched]; rw [kind_osem]; rfl
theorem payload_r (b : Fin 2) (c : Fin 7) (r : ℕ) (e : Fin 2) : (sched pc).payload (rCell b c d) r e = recvPay pc b c d := by
  dsimp only [sched]; rw [kind_osem]; rfl

theorem expect_bar : (sched pc).expect (barCell d) 0 = 2 := by
  unfold Schedule.expect Schedule.amountOf
  rw [duties_bar, Finset.sum_congr rfl fun e _ => amount_bar pc d 0 e]; rfl
theorem expect_k (k : Sx) : (sched pc).expect (kcell k d) 0 = N := by
  unfold Schedule.expect Schedule.amountOf; rw [duties_k, Finset.sum_singleton, amount_k]

theorem rest_bar : bigSep ((sched pc).duties (barCell d) 0 \ ∅) (fun e => (sched pc).payload (barCell d) 0 e) = iprop(barPay 0 d ∗ barPay 1 d) := by
  rw [Finset.sdiff_empty, duties_bar, bigSep_fin_two, payload_bar, payload_bar]; rfl
theorem rest_k (k : Sx) : bigSep ((sched pc).duties (kcell k d) 0 \ ∅) (fun e => (sched pc).payload (kcell k d) 0 e) = (sched pc).payload (kcell k d) 0 0 := by
  rw [Finset.sdiff_empty, duties_k, bigSep_singleton]

/-! ## What a device owes -/

/-- The arrivals device `d` causes at step `c` in direction `b`. -/
abbrev tal (b : Fin 2) (c : Fin 7) : CellTallies nD τ sig Unit := tallyAt (rCell b c (nb b d)) () N
/-- The arrivals it still owes when step `c` begins. -/
def owe (c : ℕ) : CellTallies nD τ sig Unit := ∑ k ∈ Finset.univ.filter (fun k : Fin 7 => c ≤ k.val), (tal d 1 k + tal d 0 k)
theorem owe_step (c : Fin 7) : owe d c.val = owe d (c.val + 1) + tal d 1 c + tal d 0 c := by
  have h : Finset.univ.filter (fun k : Fin 7 => c.val ≤ k.val) = insert c (Finset.univ.filter (fun k : Fin 7 => c.val + 1 ≤ k.val)) := by
    ext k; simp only [Finset.mem_insert, Finset.mem_filter, Finset.mem_univ, true_and]
    constructor
    · intro h; rcases Nat.eq_or_lt_of_le h with h | h
      · exact .inl (Fin.ext h.symm)
      · exact .inr h
    · rintro (rfl | h)
      · exact le_refl _
      · omega
  unfold owe
  rw [h, Finset.sum_insert (by simp), add_comm, ← add_assoc]
theorem owe_end : owe d 7 = 0 := by
  unfold owe
  rw [Finset.filter_false_of_mem (fun k _ => by have := k.isLt; omega), Finset.sum_empty]

/-- With the two barrier signals: everything it owes at launch. -/
def owe1 : CellTallies nD τ sig Unit := owe d 0 + tallyAt (barCell (nb 0 d)) () 1
def owe0 : CellTallies nD τ sig Unit := owe1 d + tallyAt (barCell (nb 1 d)) () 1

def L (g : GSem nD τ sig) : Finset Unit := if g.1.2 = .tc then {()} else ∅
def lvOf : Option (Option Sx) → ℕ
  | some none => 1
  | some (some (true, _, c)) => 2 + c.val
  | _ => 0
/-- Waits happen in this order: the barrier, then the arrivals step by step. -/
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (u : Unit) : lv (barCell d) u = 1 := by unfold lv; rw [kind_bar]; rfl
theorem lv_r (b : Fin 2) (c : Fin 7) (u : Unit) : lv (rCell b c d) u = 2 + c.val := by unfold lv; rw [kind_osem]; rfl
theorem lv_s (b : Fin 2) (c : Fin 7) (u : Unit) : lv (sCell b c d) u = 0 := by unfold lv; rw [kind_osem]; rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owe_pos {c : ℕ} {g : GSem nD τ sig} {u : Unit} (h : 0 < owe d c g u) : ∃ (b : Fin 2) (k : Fin 7), c ≤ k.val ∧ g = rCell b k (nb b d) := by
  unfold owe at h
  rw [Finset.sum_apply, Finsupp.finset_sum_apply] at h
  obtain ⟨k, hk, hp⟩ := Finset.exists_ne_zero_of_sum_ne_zero (Nat.pos_iff_ne_zero.1 h)
  rw [Pi.add_apply, Finsupp.add_apply] at hp
  have hc := (Finset.mem_filter.1 hk).2
  rcases Nat.eq_zero_or_pos (tal d 1 k g u) with h1 | h1
  · rw [h1, Nat.zero_add] at hp
    exact ⟨0, k, hc, tally_pos (Nat.pos_iff_ne_zero.2 hp)⟩
  · exact ⟨1, k, hc, tally_pos h1⟩

theorem owe0_pos {g : GSem nD τ sig} {u : Unit} (h : 0 < owe0 d g u) :
    (∃ (b : Fin 2) (k : Fin 7), g = rCell b k (nb b d)) ∨ ∃ b, g = barCell (nb b d) := by
  unfold owe0 owe1 at h
  rw [Pi.add_apply, Finsupp.add_apply, Pi.add_apply, Finsupp.add_apply] at h
  rcases Nat.eq_zero_or_pos (owe d 0 g u) with h1 | h1
  · rcases Nat.eq_zero_or_pos ((tallyAt (barCell (nb 0 d)) () 1 : CellTallies nD τ sig Unit) g u) with h2 | h2
    · rw [h1, h2] at h
      exact .inr ⟨1, tally_pos (by simpa using h)⟩
    · exact .inr ⟨0, tally_pos h2⟩
  · obtain ⟨b, k, -, hg⟩ := owe_pos d h1
    exact .inl ⟨b, k, hg⟩

/-- A device may wait on one of its semaphores whose place in the order is at most `n` while it owes only arrivals from step `c` on,
    when those come later. -/
theorem mayWait_owe (sm : SemLoc sig) (c n : ℕ) (hsm : lvOf (kind sm) ≤ n) (hn : n < 2 + c) :
    (levAts L lv : sProp 𝕄) ⊢ MayWait (d : Thread nD τ) sm () (owe d c) :=
  MayOwe.of_cut (L := L) (lev := lv) n (fun p hp => by rw [Finset.mem_singleton.mp hp, L_tc]; exact Finset.mem_singleton_self _)
    (fun g u hg => by obtain ⟨b, k, -, rfl⟩ := owe_pos d hg; exact Finset.mem_singleton_self _)
    (fun p hp => by rw [Finset.mem_singleton.mp hp]; exact hsm)
    (fun g u hg => by
      obtain ⟨b, k, hk, rfl⟩ := owe_pos d hg
      rw [lv_r]; omega)

end Cert.KernelIdealProof
-- ==== Proof.KernelIdealMoves.lean ====
/-
  The moves of the exchange: a send, the wait for its departure, the wait for an arrival, for either direction and any step.
-/
module

public import proofs.«01_k».proof.Proof.KernelIdealSched

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (pc : Dev nD → Piece F) (K : GSem nD τ sig → ℕ) (d : Dev nD)

/-! ## The invariants of all semaphores -/

/-- Every semaphore of the exchange, on every device. -/
abbrev acell (x : Dev nD × Option Sx) : GSem nD τ sig := ((x.1 : Thread nD τ), asem x.2)
theorem acell_inj : Function.Injective acell := by
  rintro ⟨d, o⟩ ⟨d', o'⟩ h
  have h1 : d = d' := congrArg (fun g : GSem nD τ sig => g.1.1) h
  have h2 : o = o' := asem_inj (congrArg Prod.snd h)
  rw [h1, h2]

def invs : sProp 𝕄 := bigSep Finset.univ fun x : Dev nD × Option Sx => cellInv ER (sched pc) (K (acell x)) (acell x)
instance invs_persistent : BI.Persistent (invs pc K) := by unfold invs; infer_instance
theorem inv_bar : (invs pc K) ⊢ cellInv ER (sched pc) (K (barCell d)) (barCell d) := bigSep_elim (Finset.mem_univ (d, none))
theorem inv_k (k : Sx) : (invs pc K) ⊢ cellInv ER (sched pc) (K (kcell k d)) (kcell k d) := bigSep_elim (Finset.mem_univ (d, some k))

theorem close (g : GSem nD τ sig) :
    iprop(cellInv ER (sched pc) (K g) g ∗ atPos ER g (0 + 1) ∅ 0) ⊢ (|={Set.univ}=> semVal g 0 : sProp 𝕄) :=
  Rounds.cell_close ER (sched pc) (Set.mem_univ (K g)) id (duties_later pc g)

/-! ## What a device holds for step `c` in direction `b` -/

def kit (b : Fin 2) (c : Fin 7) : sProp 𝕄 :=
  iprop(dutyTok ER (sCell b c d) 0 0 ∗ dutyTok ER (rCell b c (nb b d)) 0 0 ∗ reached ER (sCell b c d) 0 ∗ reached ER (rCell b c (nb b d)) 0
    ∗ atPos ER (sCell b c d) 0 ∅ 0 ∗ atPos ER (rCell b c d) 0 ∅ 0 ∗ cred (tallyAt (rCell b c d) () N))

/-- Once sent: what it waits with. -/
def sent (b : Fin 2) (c : Fin 7) : sProp 𝕄 :=
  iprop(cred (tallyAt (sCell b c d) () N) ∗ atPos ER (sCell b c d) 0 ∅ 0 ∗ atPos ER (rCell b c d) 0 ∅ 0 ∗ cred (tallyAt (rCell b c d) () N))

theorem fb_nb (b : Fin 2) (c : Fin 7) : (fbPay b c (nb b d) : sProp 𝕄)
    = if 1 ≤ c.val ∧ c.val ≤ 5 then iprop(∃ f, hPts (op b) (sl (c.val + 2)) fullShare d f) else iprop(emp) := by
  unfold fbPay; rw [nb_nb]

/-- What the piece must be handed with. -/
def src (b : Fin 2) (c : Fin 7) : sProp 𝕄 :=
  iprop(hPts b (sl c.val) fullShare.left d (spread (pc (own b c.val d))) ∗ (∃ f, hPts b (sl (c.val + 1)) fullShare (nb b d) f) ∗ fbPay b c (nb b d))

set_option maxHeartbeats 800000 in
theorem wp_snd (b : Fin 2) (c : Fin 7) (O : CellTallies nD τ sig Unit) (Q : PUnit → sProp 𝕄)
    {hsrc : (vh b (sl c.val)).view.WordExact} {hdst : (vh b (sl (c.val + 1))).view.WordExact}
    {hsem : DmaTarget.Typed .vmem (.dma (sx (true, b, c))) (DmaTarget.remote (nD := nD) (τ := τ) (p := Proc.tc) (Dev.tc (nb b d)) (vh b (sl (c.val + 1))) (.dma (sx (false, b, c))) rfl)}
    {k : PUnit → Prog (TpuEff nD τ sig (Elt F) Λ₀ .tc) PUnit} :
    iprop(invs pc K ∗ src pc d b c ∗ kit d b c ∗ (∃ W, owes (d : Thread nD τ) (O + tal d b c) W))
      ⊢ iprop(((sent d b c ∗ ∃ W, owes (d : Thread nD τ) O W) -∗ wp frame (wpE (defs₀ (F := F)) 𝒱₀ d none) Set.univ (k ⟨⟩) Q)
        -∗ wp frame (wpE (defs₀ (F := F)) 𝒱₀ d none) Set.univ
          (.op (.enqueueDma (vh b (sl c.val)) (.remote (Dev.tc (nb b d)) (vh b (sl (c.val + 1))) (.dma (sx (false, b, c)))) (.dma (sx (true, b, c))) hsrc hdst hsem) k) Q) := by
  unfold src kit
  iintro ⟨#Hinv, ⟨Hs, ⟨%f, Hd⟩, Hfb⟩, ⟨HtS, HtR, #HrS, #HrR, HaS, HaR, HcR⟩, ⟨%W, HO⟩⟩ Hk
  iapply (Rounds.wp_send_pointsTo_with 𝒱₀ ER (sched pc) (d : Thread nD τ) none (c' := (nb b d : Thread nD τ)) (src := vh b (sl c.val)) (dst := vh b (sl (c.val + 1)))
      (sS := .dma (sx (false, b, c))) (sem := .dma (sx (true, b, c))) (q := fullShare.left) (fs := spread (pc (own b c.val d))) (fd := f) (F := fbPay b c (nb b d))
      (κ₁ := K (sCell b c d)) (κ₂ := K (rCell b c (nb b d))) (r₁ := 0) (r₂ := 0) (d₁ := 0) (d₂ := 0)
      (by rw [duties_k]; exact Finset.mem_singleton_self _) (by rw [duties_k]; exact Finset.mem_singleton_self _)
      () () N rfl (amount_k pc d _ 0 0) (amount_k pc (nb b d) _ 0 0) O rfl (W := W)
      (by rw [payload_s]; unfold sendPay; rw [hPts_view])
      (by
        rw [payload_r]; unfold recvPay; rw [hPts_view, own_nb, pointsTo_congr (landed b (sl c.val) (sl (c.val + 1)) (pc (own b c.val d)) f)]))
    $$ [Hs Hd Hfb HO HtS HtR]
  · isplitr; · iapply (inv_k pc K d (false, b, c)); iexact Hinv
    isplitr; · iapply (inv_k pc K (nb b d) (true, b, c)); iexact Hinv
    isplitl [Hs]; · rw [← hPts_view]; iexact Hs
    isplitl [Hd Hfb]
    · isplitl [Hd]; · rw [← hPts_view]; iexact Hd
      iexact Hfb
    isplitl [HO]; · iexact HO
    isplitl [HtS]; · iexact HtS
    isplitr; · iexact HrS
    isplitl [HtR]; · iexact HtR
    iexact HrR
  iintro ⟨HcS, HO⟩
  iapply Hk
  unfold sent
  isplitr [HO]
  · isplitl [HcS]; · iexact HcS
    isplitl [HaS]; · iexact HaS
    isplitl [HaR]; · iexact HaR
    iexact HcR
  · iexists W; iexact HO

set_option maxHeartbeats 800000 in
theorem wp_wait (x : Sx) (c n : ℕ) (hk : lvOf (kind (osem x)) ≤ n) (hn : n < 2 + c) (Q : PUnit → sProp 𝕄)
    {s s' : Memref sig .tc .vmem S16x512x128 .i8} {hsrc : s.view.WordExact} {hdst : s'.view.WordExact} (hN : s'.view.dmaCredit = N)
    {k : PUnit → Prog (TpuEff nD τ sig (Elt F) Λ₀ .tc) PUnit} :
    iprop(invs pc K ∗ levAts L lv ∗ cred (tallyAt (kcell x d) () N) ∗ atPos ER (kcell x d) 0 ∅ 0 ∗ (∃ W, owes (d : Thread nD τ) (owe d c) W))
      ⊢ iprop(((semVal (kcell x d) 0 ∗ (sched pc).payload (kcell x d) 0 0 ∗ (∃ W, owes (d : Thread nD τ) (owe d c) W))
            -∗ wp frame (wpE (defs₀ (F := F)) 𝒱₀ d none) Set.univ (k ⟨⟩) Q)
        -∗ wp frame (wpE (defs₀ (F := F)) 𝒱₀ d none) Set.univ (.op (.waitDma2 (sx x) s s' hsrc hdst) k) Q) := by
  iintro ⟨#Hinv, #Hlev, Hc, Ha, ⟨%W, HO⟩⟩ Hk
  iapply (Rounds.wp_wait_rest_token 𝒱₀ ER (sched pc) (d : Thread nD τ) none (κ := K (kcell x d))
      (wpE_waitDma2_eq 𝒱₀ (d : Thread nD τ) none Set.univ) (Set.mem_univ _) () (O := owe d c) (W := W) (R := 0) (m := 0) (T := ∅)
      ((Nat.zero_add _).trans (hN.trans (expect_k pc d x).symm))) $$ [Hc HO Ha]
  · isplitr; · iapply (inv_k pc K d x); iexact Hinv
    isplitl [Hc]; · rw [hN]; iexact Hc
    isplitl [HO]; · iexact HO
    isplitr; · iapply (mayWait_owe d (osem x) c n hk hn); iexact Hlev
    iexact Ha
  iintro ⟨HO, Ha, -, Hpay⟩
  imod (close pc K (kcell x d)) $$ [Ha] with Hv
  · isplitr; · iapply (inv_k pc K d x); iexact Hinv
    iexact Ha
  iapply Hk
  isplitl [Hv]; · iexact Hv
  isplitl [Hpay]; · iapply (Entails.of_eq (rest_k pc d x)); iexact Hpay
  iexists _; iexact HO

end Cert.KernelIdealProof
-- ==== Proof.KernelIdealHeads.lean ====
/-
  The loop over the eight heads that adds one slot's keys and values to the running sums, for any mask and any slot.
-/
module

public import proofs.«01_k».proof.Proof.KernelIdealMoves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The buffers the loop works on: queries, slots, weighted sums of values, sums of weights. -/
abbrev qM : Memref sig .tc .vmem S8x1024x128 .bf16 := Memref.whole cc0_scratch1
abbrev aM : Memref sig .tc .vmem S8x1024x128 .f32 := Memref.whole cc0_scratch2
abbrev lM : Memref sig .tc .vmem S8x1024x1 .f32 := Memref.whole cc0_scratch3
abbrev QBuf (F : FTy → Type) : Type := (cc0_scratch1 : Ref sig .tc).ty.Contents (Elt F)
abbrev ABuf (F : FTy → Type) : Type := (cc0_scratch2 : Ref sig .tc).ty.Contents (Elt F)
abbrev LBuf (F : FTy → Type) : Type := (cc0_scratch3 : Ref sig .tc).ty.Contents (Elt F)
abbrev Mask : Type := IVec S1024x1024 1

/-! ## Head `k`'s part of each buffer -/

theorem inb7 {k : ℕ} (h : k < 8) : ∀ a, (![k, 0, 0] : Fin 3 → ℕ) a + S1x1024x128.size a ≤ S8x1024x128.size a := by
  intro a; fin_cases a
  · show k + 1 ≤ 8; omega
  · show 0 + 1024 ≤ 1024; omega
  · show 0 + 128 ≤ 128; omega
theorem inb9 {k : ℕ} (h : k < 8) : ∀ a, (![k, 0, 0] : Fin 3 → ℕ) a + S1x1024x1.size a ≤ S8x1024x1.size a := by
  intro a; fin_cases a
  · show k + 1 ≤ 8; omega
  · show 0 + 1024 ≤ 1024; omega
  · show 0 + 1 ≤ 1; omega
theorem inb6 (s : Fin 3) {k : ℕ} (h : k < 16) : ∀ a, (![s.val, k, 0, 0] : Fin 4 → ℕ) a + S1x1x1024x128.size a ≤ S3x16x1024x128.size a := by
  intro a
  have := s.isLt
  fin_cases a
  · show s.val + 1 ≤ 3; omega
  · show k + 1 ≤ 16; omega
  · show 0 + 1024 ≤ 1024; omega
  · show 0 + 128 ≤ 128; omega

abbrev row7 {k : ℕ} (h : k < 8) : Rect S8x1024x128 := Rect.unit (s := S8x1024x128) ![k, 0, 0] S1x1024x128.size (inb7 h)
abbrev row9 {k : ℕ} (h : k < 8) : Rect S8x1024x1 := Rect.unit (s := S8x1024x1) ![k, 0, 0] S1x1024x1.size (inb9 h)
abbrev row6 (s : Fin 3) {k : ℕ} (h : k < 16) : Rect S3x16x1024x128 := Rect.unit (s := S3x16x1024x128) ![s.val, k, 0, 0] S1x1x1024x128.size (inb6 s h)

abbrev rdQ {k : ℕ} (h : k < 8) (q : QBuf F) : Vec F S1x1024x128 .bf16 := qM.view.readAt (Elt F) (row7 h).toLoadRect q
abbrev rdA {k : ℕ} (h : k < 8) (a : ABuf F) : Vec F S1x1024x128 .f32 := aM.view.readAt (Elt F) (row7 h).toLoadRect a
abbrev rdL {k : ℕ} (h : k < 8) (l : LBuf F) : Vec F S1x1024x1 .f32 := lM.view.readAt (Elt F) (row9 h).toLoadRect l
abbrev rdKV (s : Fin 3) {k : ℕ} (h : k < 16) (f : Kv F) : Vec F S1x1x1024x128 .i8 := kvM.view.readAt (Elt F) (row6 s h).toLoadRect f

/-- The sums of weights once head `k` has been through slot `s`. -/
def headL (m : Mask) (s : Fin 3) (q : QBuf F) (f : Kv F) {k : ℕ} (h : k < 8) (l : LBuf F) : LBuf F :=
  (lM.access (row9 h)).write (Elt F) l (k0_pay3 m (rdQ h q) (rdKV s (Nat.lt_of_lt_of_le h (by decide)) f) (rdL h l)) Finset.univ
/-- The weighted sums of values. -/
def headA (m : Mask) (s : Fin 3) (q : QBuf F) (f : Kv F) {k : ℕ} (h : k < 8) (a : ABuf F) : ABuf F :=
  (aM.access (row7 h)).write (Elt F) a (k0_pay4 m (rdQ h q) (rdKV s (Nat.lt_of_lt_of_le h (by decide)) f) (rdA h a)
    (rdKV s (Nat.add_lt_add_right h 8) f)) Finset.univ

/-- After the first `n` heads. -/
def lAfter (m : Mask) (s : Fin 3) (q : QBuf F) (f : Kv F) (l : LBuf F) : ℕ → LBuf F
  | 0 => l
  | n + 1 => if h : n < 8 then headL m s q f h (lAfter m s q f l n) else lAfter m s q f l n
def aAfter (m : Mask) (s : Fin 3) (q : QBuf F) (f : Kv F) (a : ABuf F) : ℕ → ABuf F
  | 0 => a
  | n + 1 => if h : n < 8 then headA m s q f h (aAfter m s q f a n) else aAfter m s q f a n

/-! ## The loop -/

/-- One trip, its accesses given by their offsets. -/
def headProg {n : ℕ} (o7 : Fin n → Fin 3 → ℕ) (i7 : ∀ k, ∀ a, o7 k a + S1x1024x128.size a ≤ S8x1024x128.size a)
    (o6 : Fin n → Fin 4 → ℕ) (i6 : ∀ k, ∀ a, o6 k a + S1x1x1024x128.size a ≤ S3x16x1024x128.size a)
    (o9 : Fin n → Fin 3 → ℕ) (i9 : ∀ k, ∀ a, o9 k a + S1x1024x1.size a ≤ S8x1024x1.size a)
    (o6' : Fin n → Fin 4 → ℕ) (i6' : ∀ k, ∀ a, o6' k a + S1x1x1024x128.size a ≤ S3x16x1024x128.size a) (m : Mask) :
    Fin n → Unit → Prog (TpuEff nD τ sig (Elt F) Λ₀ .tc) Unit :=
  fun k _ => do
    let q : Vec F S1x1024x128 .bf16 ← Prog.lift (.load qM (Rect.unit (s := S8x1024x128) (o7 k) S1x1024x128.size (i7 k)).toLoadRect (View.loadsAt_vmem h_S1x1024x128))
    let kk : Vec F S1x1x1024x128 .i8 ← Prog.lift (.load kvM (Rect.unit (s := S3x16x1024x128) (o6 k) S1x1x1024x128.size (i6 k)).toLoadRect (View.loadsAt_vmem h_S1x1x1024x128))
    let l : Vec F S1x1024x1 .f32 ← Prog.lift (.load lM (Rect.unit (s := S8x1024x1) (o9 k) S1x1024x1.size (i9 k)).toLoadRect (View.loadsAt_vmem h_S1x1024x1))
    let _l' : Vec F S1x1024x1 .f32 ← Prog.lift (.load lM (Rect.unit (s := S8x1024x1) (o9 k) S1x1024x1.size (i9 k)).toLoadRect (View.loadsAt_vmem h_S1x1024x1))
    Prog.lift (.store lM (Rect.unit (s := S8x1024x1) (o9 k) S1x1024x1.size (i9 k)) (k0_pay3 m q kk l) Finset.univ (View.stores_vmem_bits_univ h_S1x1024x1 rfl) (.inl rfl))
    let a : Vec F S1x1024x128 .f32 ← Prog.lift (.load aM (Rect.unit (s := S8x1024x128) (o7 k) S1x1024x128.size (i7 k)).toLoadRect (View.loadsAt_vmem h_S1x1024x128))
    let v : Vec F S1x1x1024x128 .i8 ← Prog.lift (.load kvM (Rect.unit (s := S3x16x1024x128) (o6' k) S1x1x1024x128.size (i6' k)).toLoadRect (View.loadsAt_vmem h_S1x1x1024x128))
    let _a' : Vec F S1x1024x128 .f32 ← Prog.lift (.load aM (Rect.unit (s := S8x1024x128) (o7 k) S1x1024x128.size (i7 k)).toLoadRect (View.loadsAt_vmem h_S1x1024x128))
    Prog.lift (.store aM (Rect.unit (s := S8x1024x128) (o7 k) S1x1024x128.size (i7 k)) (k0_pay4 m q kk a v) Finset.univ (View.stores_vmem_bits_univ h_S1x1024x128 rfl) (.inl rfl))
    pure ⟨⟩

def qPts (d : Dev nD) (q : QBuf F) : sProp 𝕄 := (d : Thread nD τ).loc cc0_scratch1 ↦{fullShare} q
def aPts (d : Dev nD) (a : ABuf F) : sProp 𝕄 := (d : Thread nD τ).loc cc0_scratch2 ↦{fullShare} a
def lPts (d : Dev nD) (l : LBuf F) : sProp 𝕄 := (d : Thread nD τ).loc cc0_scratch3 ↦{fullShare} l

/-- What the loop holds. -/
def headSt (d : Dev nD) (s : Fin 3) (p : PosShare TreeShare) (q : QBuf F) (f : Kv F) (a : ABuf F) (l : LBuf F) : sProp 𝕄 :=
  iprop(qPts d q ∗ sPts s p d f ∗ aPts d a ∗ lPts d l)

theorem row6_sub (s : Fin 3) {k : ℕ} (h : k < 16) : kvM.view.setOn (row6 s h).toLoadRect.set ⊆ sset s := by
  intro i hi
  unfold View.setOn at hi
  obtain ⟨x, hx, rfl⟩ := Finset.mem_map.1 hi
  have h0 := (Rect.mem_set_unit.1 hx) 0
  unfold sset
  rw [Finset.mem_filter]
  refine ⟨Finset.mem_univ _, ?_⟩
  have e1 : s.val ≤ (x 0).val := h0.1
  have e2 : (x 0).val < s.val + 1 := h0.2
  show (x 0).val = s.val
  omega

set_option maxHeartbeats 1600000 in
theorem wp_head (d : Dev nD) (m : Mask) (s : Fin 3) (p : PosShare TreeShare) (q : QBuf F) (f : Kv F) (a : ABuf F) (l : LBuf F) {n : ℕ}
    {o7 : Fin n → Fin 3 → ℕ} {i7} {o6 : Fin n → Fin 4 → ℕ} {i6} {o9 : Fin n → Fin 3 → ℕ} {i9} {o6' : Fin n → Fin 4 → ℕ} {i6'}
    (h7 : o7 = fun k => ![k.val, 0, 0]) (h6 : o6 = fun k => ![s.val, k.val, 0, 0]) (h9 : o9 = fun k => ![k.val, 0, 0]) (h6' : o6' = fun k => ![s.val, k.val + 8, 0, 0])
    (k : Fin n) (u : Unit) (hk : k.val < 8) :
    headSt d s p q f a l
      ⊢ wp frame (wpE (defs₀ (F := F)) 𝒱₀ d none) Set.univ (headProg o7 i7 o6 i6 o9 i9 o6' i6' m k u)
          (fun _ => headSt d s p q f (headA m s q f hk a) (headL m s q f hk l)) := by
  subst h7 h6 h9 h6'
  simp only [headProg, Prog.lift, Prog.bind_op, Prog.bind_ret, Prog.pure_eq_ret]
  unfold headSt qPts sPts aPts lPts
  iintro ⟨Hq, Hs, Ha, Hl⟩
  iapply (wp_load 𝒱₀ (d : Thread nD τ) none Set.univ (m := qM) (Finset.subset_univ _)) $$ Hq; iintro Hq
  iapply (wp_load 𝒱₀ (d : Thread nD τ) none Set.univ (m := kvM) (S := sset s) (row6_sub s (Nat.lt_of_lt_of_le hk (by decide)))) $$ Hs; iintro Hs
  iapply (wp_load 𝒱₀ (d : Thread nD τ) none Set.univ (m := lM) (Finset.subset_univ _)) $$ Hl; iintro Hl
  iapply (wp_load 𝒱₀ (d : Thread nD τ) none Set.univ (m := lM) (Finset.subset_univ _)) $$ Hl; iintro Hl
  iapply (wp_store 𝒱₀ (d : Thread nD τ) none Set.univ (m := lM) (r := row9 hk) (f := l) (Finset.subset_univ _)) $$ Hl; iintro Hl
  iapply (wp_load 𝒱₀ (d : Thread nD τ) none Set.univ (m := aM) (Finset.subset_univ _)) $$ Ha; iintro Ha
  iapply (wp_load 𝒱₀ (d : Thread nD τ) none Set.univ (m := kvM) (S := sset s) (row6_sub s (Nat.add_lt_add_right hk 8))) $$ Hs; iintro Hs
  iapply (wp_load 𝒱₀ (d : Thread nD τ) none Set.univ (m := aM) (Finset.subset_univ _)) $$ Ha; iintro Ha
  iapply (wp_store 𝒱₀ (d : Thread nD τ) none Set.univ (m := aM) (r := row7 hk) (f := a) (Finset.subset_univ _)) $$ Ha; iintro Ha
  rw [wp_ret]
  imodintro
  isplitl [Hq]; · iexact Hq
  isplitl [Hs]; · iexact Hs
  isplitl [Ha]; · iexact Ha
  iexact Hl

/-- The whole loop at the head of a program. -/
theorem wp_heads (d : Dev nD) (m : Mask) (s : Fin 3) (p : PosShare TreeShare) (q : QBuf F) (f : Kv F) (a : ABuf F) (l : LBuf F)
    (lp : Scf.Loop 32) (hn : lp.trips = 8) {hok : lp.OK} {body : Fin lp.trips → Unit → Prog (TpuEff nD τ sig (Elt F) Λ₀ .tc) Unit}
    (o7 : Fin lp.trips → Fin 3 → ℕ) (i7) (o6 : Fin lp.trips → Fin 4 → ℕ) (i6) (o9 : Fin lp.trips → Fin 3 → ℕ) (i9) (o6' : Fin lp.trips → Fin 4 → ℕ) (i6')
    (hbody : body = headProg o7 i7 o6 i6 o9 i9 o6' i6' m)
    (h7 : ∀ k, o7 k = ![k.val, 0, 0]) (h6 : ∀ k, o6 k = ![s.val, k.val, 0, 0]) (h9 : ∀ k, o9 k = ![k.val, 0, 0]) (h6' : ∀ k, o6' k = ![s.val, k.val + 8, 0, 0])
    (Q : PUnit → sProp 𝕄) {kk : Unit → Prog (TpuEff nD τ sig (Elt F) Λ₀ .tc) PUnit} :
    headSt d s p q f a l
      ⊢ iprop((headSt d s p q f (aAfter m s q f a 8) (lAfter m s q f l 8) -∗ wp frame (wpE (defs₀ (F := F)) 𝒱₀ d none) Set.univ (kk ⟨⟩) Q)
        -∗ wp frame (wpE (defs₀ (F := F)) 𝒱₀ d none) Set.univ (Scf.for lp.lb lp.ub lp.st hok ⟨⟩ body >>= kk) Q) := by
  subst hbody
  iintro H Hk
  iapply (Scf.wp_for_bind frame (wpE (defs₀ (F := F)) 𝒱₀ d none) Set.univ lp.lb lp.ub lp.st hok ⟨⟩ _
    (fun n _ => headSt d s p q f (aAfter m s q f a n) (lAfter m s q f l n)) ?_) $$ [H]
  · intro k u
    have hk : k.val < 8 := hn ▸ k.isLt
    refine (wp_head d m s p q f _ _ (i7 := i7) (i6 := i6) (i9 := i9) (i6' := i6') (funext h7) (funext h6) (funext h9) (funext h6') k u hk).trans (Entails.of_eq ?_)
    rw [aAfter, lAfter, dif_pos hk, dif_pos hk]
  · iexact H
  iintro %u H
  iapply Hk
  rw [show Scf.trips lp.lb lp.ub lp.st = 8 from hn]
  iexact H

end Cert.KernelIdealProof
-- ==== Proof.KernelIdealStep.lean ====
/-
  One step of the exchange: both pieces sent on, the slot in hand worked through, both departures and both arrivals waited for.
-/
module

public import proofs.«01_k».proof.Proof.KernelIdealHeads

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (pc : Dev nD → Piece F) (K : GSem nD τ sig → ℕ) (d : Dev nD)

/-- The slot in hand at step `c`: both halves. -/
def cur (c : ℕ) : sProp 𝕄 := iprop(hPts 0 (sl c) fullShare d (spread (pc (own 0 c d))) ∗ hPts 1 (sl c) fullShare d (spread (pc (own 1 c d))))
/-- The neighbours' half slots the sends of step `c` write. -/
def dst (c : ℕ) : sProp 𝕄 := iprop((∃ f, hPts 0 (sl (c + 1)) fullShare (nb 0 d) f) ∗ ∃ f, hPts 1 (sl (c + 1)) fullShare (nb 1 d) f)
/-- The slot done with before step `c`. -/
def old (c : ℕ) : sProp 𝕄 := iprop((∃ f, hPts 0 (sl (c + 2)) fullShare d f) ∗ ∃ f, hPts 1 (sl (c + 2)) fullShare d f)
/-- What the slot in hand reads as. -/
abbrev kvAt (c : ℕ) : Kv F := mix (pc (own 0 c d)) (pc (own 1 c d))
/-- The semaphores of step `c` in direction `b`, done with. -/
def done (b : Fin 2) (c : Fin 7) : sProp 𝕄 := iprop(semVal (sCell b c d) 0 ∗ semVal (rCell b c d) 0)
abbrev owing (O : CellTallies nD τ sig Unit) : sProp 𝕄 := iprop(∃ W, owes (d : Thread nD τ) O W)

/-- What goes along with the pieces of step `c`, and what comes along. -/
def fbOut (c : Fin 7) : sProp 𝕄 := iprop(fbPay 0 c (nb 0 d) ∗ fbPay 1 c (nb 1 d))
def fbIn (c : Fin 7) : sProp 𝕄 := iprop(fbPay 0 c d ∗ fbPay 1 c d)

theorem fbOut_edge {c : Fin 7} (h : ¬ (1 ≤ c.val ∧ c.val ≤ 5)) : (BI.emp : sProp 𝕄) ⊢ fbOut (F := F) d c := by
  unfold fbOut fbPay; rw [if_neg h, if_neg h]
  iintro -; isplitr <;> iempintro
theorem old_out {c : Fin 7} (h : 1 ≤ c.val ∧ c.val ≤ 5) : (old d c.val : sProp 𝕄) ⊢ fbOut d c := by
  unfold old fbOut; rw [fb_nb, fb_nb, if_pos h, if_pos h]
  iintro ⟨H0, H1⟩
  isplitl [H1]; · iexact H1
  iexact H0
theorem in_dst {c : Fin 7} (h : 1 ≤ c.val ∧ c.val ≤ 5) : (fbIn d c : sProp 𝕄) ⊢ dst d (c.val + 1) := by
  unfold dst fbIn fbPay; rw [if_pos h, if_pos h]
  iintro ⟨H0, H1⟩
  isplitl [H1]; · iexact H1
  iexact H0
theorem sl_three (c : ℕ) : sl (c + 1 + 2) = sl c := Fin.ext (by show (c + 1 + 2) % 3 = c % 3; omega)

theorem cur_old (c : ℕ) : (cur pc d c : sProp 𝕄) ⊢ old d (c + 1) := by
  unfold cur old; rw [sl_three]
  iintro ⟨H0, H1⟩
  isplitl [H0]
  · iexists _; iexact H0
  · iexists _; iexact H1

set_option maxHeartbeats 800000 in
theorem wp_sends (c : Fin 7) (Q : PUnit → sProp 𝕄) {D0 D1 : Dev nD} (e0 : D0 = nb 0 d) (e1 : D1 = nb 1 d)
    {h1 : (vh 0 (sl c.val)).view.WordExact} {h2 : (vh 0 (sl (c.val + 1))).view.WordExact}
    {h3 : DmaTarget.Typed .vmem (.dma (sx (true, 0, c))) (DmaTarget.remote (nD := nD) (τ := τ) (p := Proc.tc) (Dev.tc D0) (vh 0 (sl (c.val + 1))) (.dma (sx (false, 0, c))) rfl)}
    {h1' : (vh 1 (sl c.val)).view.WordExact} {h2' : (vh 1 (sl (c.val + 1))).view.WordExact}
    {h3' : DmaTarget.Typed .vmem (.dma (sx (true, 1, c))) (DmaTarget.remote (nD := nD) (τ := τ) (p := Proc.tc) (Dev.tc D1) (vh 1 (sl (c.val + 1))) (.dma (sx (false, 1, c))) rfl)}
    {k : PUnit → Prog (TpuEff nD τ sig (Elt F) Λ₀ .tc) PUnit} :
    iprop(invs pc K ∗ cur pc d c.val ∗ dst d c.val ∗ fbOut d c ∗ kit d 0 c ∗ kit d 1 c ∗ owing d (owe d c.val))
      ⊢ iprop(((sPts (sl c.val) fullShare.right d (kvAt pc d c.val) ∗ sent d 0 c ∗ sent d 1 c ∗ owing d (owe d (c.val + 1)))
            -∗ wp frame (wpE (defs₀ (F := F)) 𝒱₀ d none) Set.univ (k ⟨⟩) Q)
        -∗ wp frame (wpE (defs₀ (F := F)) 𝒱₀ d none) Set.univ
          (.op (.enqueueDma (vh 0 (sl c.val)) (.remote (Dev.tc D0) (vh 0 (sl (c.val + 1))) (.dma (sx (false, 0, c)))) (.dma (sx (true, 0, c))) h1 h2 h3) fun _ =>
            .op (.enqueueDma (vh 1 (sl c.val)) (.remote (Dev.tc D1) (vh 1 (sl (c.val + 1))) (.dma (sx (false, 1, c)))) (.dma (sx (true, 1, c))) h1' h2' h3') k) Q) := by
  subst e0 e1
  unfold cur dst fbOut
  iintro ⟨#Hinv, ⟨Hc0, Hc1⟩, ⟨Hd0, Hd1⟩, ⟨Hf0, Hf1⟩, Hk0, Hk1, HO⟩ Hk
  rw [owe_step]
  ihave Hc0' := (half_share 0 (sl c.val) d _).1 $$ Hc0
  icases Hc0' with ⟨Hl0, Hr0⟩
  ihave Hc1' := (half_share 1 (sl c.val) d _).1 $$ Hc1
  icases Hc1' with ⟨Hl1, Hr1⟩
  iapply (wp_snd pc K d 0 c (owe d (c.val + 1) + tal d 1 c) Q) $$ [Hl0 Hd0 Hf0 Hk0 HO]
  · isplitr; · iexact Hinv
    isplitl [Hl0 Hd0 Hf0]
    · unfold src
      isplitl [Hl0]; · iexact Hl0
      isplitl [Hd0]; · iexact Hd0
      iexact Hf0
    isplitl [Hk0]; · iexact Hk0
    iexact HO
  iintro ⟨Hs0, HO⟩
  iapply (wp_snd pc K d 1 c (owe d (c.val + 1)) Q) $$ [Hl1 Hd1 Hf1 Hk1 HO]
  · isplitr; · iexact Hinv
    isplitl [Hl1 Hd1 Hf1]
    · unfold src
      isplitl [Hl1]; · iexact Hl1
      isplitl [Hd1]; · iexact Hd1
      iexact Hf1
    isplitl [Hk1]; · iexact Hk1
    iexact HO
  iintro ⟨Hs1, HO⟩
  iapply Hk
  isplitl [Hr0 Hr1]
  · iapply (slot_join (sl c.val) fullShare.right d (pc (own 0 c.val d)) (pc (own 1 c.val d))).2
    isplitl [Hr0]; · iexact Hr0
    iexact Hr1
  isplitl [Hs0]; · iexact Hs0
  isplitl [Hs1]; · iexact Hs1
  iexact HO

set_option maxHeartbeats 1600000 in
theorem wp_waits (c : Fin 7) (Q : PUnit → sProp 𝕄)
    {s1 t1 s2 t2 s3 t3 s4 t4 : Memref sig .tc .vmem S16x512x128 .i8} {h1 : s1.view.WordExact} {g1 : t1.view.WordExact}
    {h2 : s2.view.WordExact} {g2 : t2.view.WordExact} {h3 : s3.view.WordExact} {g3 : t3.view.WordExact} {h4 : s4.view.WordExact} {g4 : t4.view.WordExact}
    (n1 : t1.view.dmaCredit = N) (n2 : t2.view.dmaCredit = N) (n3 : t3.view.dmaCredit = N) (n4 : t4.view.dmaCredit = N)
    {k : PUnit → Prog (TpuEff nD τ sig (Elt F) Λ₀ .tc) PUnit} :
    iprop(invs pc K ∗ levAts L lv ∗ sPts (sl c.val) fullShare.right d (kvAt pc d c.val) ∗ sent d 0 c ∗ sent d 1 c ∗ owing d (owe d (c.val + 1)))
      ⊢ iprop(((cur pc d (c.val + 1) ∗ cur pc d c.val ∗ fbIn d c ∗ done d 0 c ∗ done d 1 c ∗ owing d (owe d (c.val + 1)))
            -∗ wp frame (wpE (defs₀ (F := F)) 𝒱₀ d none) Set.univ (k ⟨⟩) Q)
        -∗ wp frame (wpE (defs₀ (F := F)) 𝒱₀ d none) Set.univ
          (.op (.waitDma2 (sx (false, 0, c)) s1 t1 h1 g1) fun _ => .op (.waitDma2 (sx (true, 0, c)) s2 t2 h2 g2) fun _ =>
            .op (.waitDma2 (sx (false, 1, c)) s3 t3 h3 g3) fun _ => .op (.waitDma2 (sx (true, 1, c)) s4 t4 h4 g4) k) Q) := by
  have ls (b : Fin 2) : lvOf (kind (osem (false, b, c))) ≤ 2 + c.val := by rw [kind_osem]; exact Nat.zero_le _
  have lr (b : Fin 2) : lvOf (kind (osem (true, b, c))) ≤ 2 + c.val := by rw [kind_osem]; exact le_refl _
  have hlt : 2 + c.val < 2 + (c.val + 1) := by omega
  unfold sent cur fbIn done
  iintro ⟨#Hinv, #Hlev, Hs, ⟨HcS0, HaS0, HaR0, HcR0⟩, ⟨HcS1, HaS1, HaR1, HcR1⟩, HO⟩ Hk
  ihave Hs' := (slot_join (sl c.val) fullShare.right d (pc (own 0 c.val d)) (pc (own 1 c.val d))).1 $$ Hs
  icases Hs' with ⟨Hr0, Hr1⟩
  iapply (wp_wait pc K d (false, 0, c) (c.val + 1) (2 + c.val) (ls 0) hlt Q n1) $$ [HcS0 HaS0 HO]
  · isplitr; · iexact Hinv
    isplitr; · iexact Hlev
    isplitl [HcS0]; · iexact HcS0
    isplitl [HaS0]; · iexact HaS0
    iexact HO
  iintro ⟨HvS0, HpS0, HO⟩
  iapply (wp_wait pc K d (true, 0, c) (c.val + 1) (2 + c.val) (lr 0) hlt Q n2) $$ [HcR0 HaR0 HO]
  · isplitr; · iexact Hinv
    isplitr; · iexact Hlev
    isplitl [HcR0]; · iexact HcR0
    isplitl [HaR0]; · iexact HaR0
    iexact HO
  iintro ⟨HvR0, HpR0, HO⟩
  iapply (wp_wait pc K d (false, 1, c) (c.val + 1) (2 + c.val) (ls 1) hlt Q n3) $$ [HcS1 HaS1 HO]
  · isplitr; · iexact Hinv
    isplitr; · iexact Hlev
    isplitl [HcS1]; · iexact HcS1
    isplitl [HaS1]; · iexact HaS1
    iexact HO
  iintro ⟨HvS1, HpS1, HO⟩
  iapply (wp_wait pc K d (true, 1, c) (c.val + 1) (2 + c.val) (lr 1) hlt Q n4) $$ [HcR1 HaR1 HO]
  · isplitr; · iexact Hinv
    isplitr; · iexact Hlev
    isplitl [HcR1]; · iexact HcR1
    isplitl [HaR1]; · iexact HaR1
    iexact HO
  iintro ⟨HvR1, HpR1, HO⟩
  iapply Hk
  ihave HpR0' := (Entails.of_eq ((payload_r pc d 0 c _ _).trans (recvPay.eq_1 pc 0 c d))) $$ HpR0
  ihave HpR1' := (Entails.of_eq ((payload_r pc d 1 c _ _).trans (recvPay.eq_1 pc 1 c d))) $$ HpR1
  ihave HpS0' := (Entails.of_eq ((payload_s pc d 0 c _ _).trans (sendPay.eq_1 pc 0 c d))) $$ HpS0
  ihave HpS1' := (Entails.of_eq ((payload_s pc d 1 c _ _).trans (sendPay.eq_1 pc 1 c d))) $$ HpS1
  icases HpR0' with ⟨Hn0, Hf0⟩
  icases HpR1' with ⟨Hn1, Hf1⟩
  isplitl [Hn0 Hn1]
  · isplitl [Hn0]; · iexact Hn0
    iexact Hn1
  isplitl [HpS0' Hr0 HpS1' Hr1]
  · isplitl [HpS0' Hr0]
    · iapply (half_share 0 (sl c.val) d _).2
      isplitl [HpS0']; · iexact HpS0'
      iexact Hr0
    · iapply (half_share 1 (sl c.val) d _).2
      isplitl [HpS1']; · iexact HpS1'
      iexact Hr1
  isplitl [Hf0 Hf1]
  · isplitl [Hf0]; · iexact Hf0
    iexact Hf1
  isplitl [HvS0 HvR0]
  · isplitl [HvS0]; · iexact HvS0
    iexact HvR0
  isplitl [HvS1 HvR1]
  · isplitl [HvS1]; · iexact HvS1
    iexact HvR1
  iexact HO

end Cert.KernelIdealProof
-- ==== Proof.KernelIdealEnds.lean ====
/-
  The kernel's own ends: the quantised keys and values put into the first slot, the queries, the cleared sums, and the output.
-/
module

public import proofs.«01_k».proof.Proof.KernelIdealHeads

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The keys and values quantised -/

abbrev BM2 : Memref sig .tc .vmem S8x1024x128 .bf16 := Memref.whole cc0_stg2_0
abbrev BM3 : Memref sig .tc .vmem S8x1024x128 .bf16 := Memref.whole cc0_stg3_0
abbrev BM0 : Memref sig .tc .vmem S1024x1024 .bf16 := Memref.whole cc0_stg0_0
abbrev BM1 : Memref sig .tc .vmem S8x1024x128 .bf16 := Memref.whole cc0_stg1_0
abbrev BM4 : Memref sig .tc .vmem S8x128x1024 .bf16 := Memref.whole cc0_stg4_0
abbrev BM5 : Memref sig .tc .vmem S1024x1024 .f32 := Memref.whole cc0_stg5_0
abbrev B0 (F : FTy → Type) : Type := (cc0_stg0_0 : Ref sig .tc).ty.Contents (Elt F)
abbrev B1 (F : FTy → Type) : Type := (cc0_stg1_0 : Ref sig .tc).ty.Contents (Elt F)
abbrev B2 (F : FTy → Type) : Type := (cc0_stg2_0 : Ref sig .tc).ty.Contents (Elt F)
abbrev B3 (F : FTy → Type) : Type := (cc0_stg3_0 : Ref sig .tc).ty.Contents (Elt F)
abbrev B4 (F : FTy → Type) : Type := (cc0_stg4_0 : Ref sig .tc).ty.Contents (Elt F)
abbrev B5 (F : FTy → Type) : Type := (cc0_stg5_0 : Ref sig .tc).ty.Contents (Elt F)

abbrev all3 : Rect S8x1024x128 := Rect.unit (s := S8x1024x128) ![0, 0, 0] S8x1024x128.size inb_S8x1024x128_S8x1024x128_0_0_0
abbrev all2 : Rect S1024x1024 := Rect.unit (s := S1024x1024) ![0, 0] S1024x1024.size inb_S1024x1024_S1024x1024_0_0
abbrev all9 : Rect S8x1024x1 := Rect.unit (s := S8x1024x1) ![0, 0, 0] S8x1024x1.size inb_S8x1024x1_S8x1024x1_0_0_0
abbrev up6 : Rect S3x16x1024x128 := Rect.unit (s := S3x16x1024x128) ![0, 0, 0, 0] S1x8x1024x128.size inb_S3x16x1024x128_S1x8x1024x128_0_0_0_0
abbrev dn6 : Rect S3x16x1024x128 := Rect.unit (s := S3x16x1024x128) ![0, 8, 0, 0] S1x8x1024x128.size inb_S3x16x1024x128_S1x8x1024x128_0_8_0_0

abbrev rd2 (f : B2 F) : Vec F S8x1024x128 .bf16 := BM2.view.readAt (Elt F) all3.toLoadRect f
abbrev rd3 (f : B3 F) : Vec F S8x1024x128 .bf16 := BM3.view.readAt (Elt F) all3.toLoadRect f
abbrev rd0 (f : B0 F) : Vec F S1024x1024 .bf16 := BM0.view.readAt (Elt F) all2.toLoadRect f
abbrev rd1 {k : ℕ} (h : k < 8) (f : B1 F) : Vec F S1x1024x128 .bf16 := BM1.view.readAt (Elt F) (row7 h).toLoadRect f
abbrev rd5 (f : B5 F) : Vec F S1024x1024 .f32 := BM5.view.readAt (Elt F) all2.toLoadRect f

/-- An index of the stored half: head `h`, row `r`, column `e`. -/
def at8 (h : Fin 8) (r : Fin 1024) (e : Fin 128) : S1x8x1024x128.Idx := fun a => match a with | 0 => (0 : Fin 1) | 1 => h | 2 => r | 3 => e

/-- A device's piece: its quantised keys above its quantised values. -/
def pieceOf (kb : B2 F) (vb : B3 F) : Piece F := fun i =>
  if h : (i 0).val < 8 then k0_pay26 (rd2 kb) (at8 ⟨(i 0).val, h⟩ (i 1) (i 2))
  else k0_pay27 (rd3 vb) (at8 ⟨(i 0).val - 8, by have h' : (i 0).val < 16 := (i 0).isLt; omega⟩ (i 1) (i 2))

theorem up6_sub : (kvM.access up6).set ⊆ sset 0 := by
  rw [View.set_slice_whole]
  intro i hi
  have h0 := (Rect.mem_set_unit.1 hi) 0
  unfold sset
  rw [Finset.mem_filter]
  have e2 : (i 0).val < 0 + 1 := h0.2
  exact ⟨Finset.mem_univ _, by show (i 0).val = 0; omega⟩
theorem dn6_sub : (kvM.access dn6).set ⊆ sset 0 := by
  rw [View.set_slice_whole]
  intro i hi
  have h0 := (Rect.mem_set_unit.1 hi) 0
  unfold sset
  rw [Finset.mem_filter]
  have e2 : (i 0).val < 0 + 1 := h0.2
  exact ⟨Finset.mem_univ _, by show (i 0).val = 0; omega⟩

theorem opened (f : Kv F) (kb : B2 F) (vb : B3 F) :
    ∀ i ∈ sset 0, (kvM.access dn6).write (Elt F) ((kvM.access up6).write (Elt F) f (k0_pay26 (rd2 kb)) Finset.univ) (k0_pay27 (rd3 vb)) Finset.univ i
      = spread (pieceOf kb vb) i := by
  intro i hi
  unfold sset at hi
  rw [Finset.mem_filter] at hi
  have h0 : (i 0).val = 0 := hi.2
  have h1 : (i 1).val < 16 := (i 1).isLt
  unfold spread pieceOf
  have e0 : (drop i 0).val = (i 1).val := rfl
  by_cases h : (i 1).val < 8
  · rw [dif_pos (show (drop i 0).val < 8 from h)]
    have hn : i ∉ (kvM.access dn6).set := by
      rw [View.set_slice_whole]
      intro hm
      have := ((Rect.mem_set_unit.1 hm) 1).1
      have e1 : 8 ≤ (i 1).val := this
      omega
    rw [View.write_of_not_mem _ _ _ (fun h' => hn (by rwa [View.setOn_univ] at h'))]
    have e : i = (kvM.access up6).emb (at8 ⟨(i 1).val, h⟩ (i 2) (i 3)) := by
      funext a
      apply Fin.ext
      fin_cases a
      · show (i 0).val = 0 + 1 * 0; omega
      · show (i 1).val = 0 + 1 * (i 1).val; omega
      · show (i 2).val = 0 + 1 * (i 2).val; omega
      · show (i 3).val = 0 + 1 * (i 3).val; omega
    conv_lhs => rw [e]
    rw [View.write_emb_of_mem _ _ (Finset.mem_univ _)]
    rfl
  · rw [dif_neg (show ¬ (drop i 0).val < 8 from h)]
    have e : i = (kvM.access dn6).emb (at8 ⟨(i 1).val - 8, by omega⟩ (i 2) (i 3)) := by
      funext a
      apply Fin.ext
      fin_cases a
      · show (i 0).val = 0 + 1 * 0; omega
      · show (i 1).val = 8 + 1 * ((i 1).val - 8); omega
      · show (i 2).val = 0 + 1 * (i 2).val; omega
      · show (i 3).val = 0 + 1 * (i 3).val; omega
    conv_lhs => rw [e]
    rw [View.write_emb_of_mem _ _ (Finset.mem_univ _)]
    rfl

/-! ## The queries -/

def headQ (x : B0 F) (w : B1 F) {k : ℕ} (h : k < 8) (q : QBuf F) : QBuf F :=
  (qM.access (row7 h)).write (Elt F) q (k0_pay30 (rd0 x) (rd1 h w)) Finset.univ
def qAfter (x : B0 F) (w : B1 F) (q : QBuf F) : ℕ → QBuf F
  | 0 => q
  | n + 1 => if h : n < 8 then headQ x w h (qAfter x w q n) else qAfter x w q n

def xPts (d : Dev nD) (x : B0 F) : sProp 𝕄 := (d : Thread nD τ).loc cc0_stg0_0 ↦{fullShare} x
def wPts (d : Dev nD) (w : B1 F) : sProp 𝕄 := (d : Thread nD τ).loc cc0_stg1_0 ↦{fullShare} w
def kPts (d : Dev nD) (w : B2 F) : sProp 𝕄 := (d : Thread nD τ).loc cc0_stg2_0 ↦{fullShare} w
def vPts (d : Dev nD) (w : B3 F) : sProp 𝕄 := (d : Thread nD τ).loc cc0_stg3_0 ↦{fullShare} w
def woPts (d : Dev nD) (w : B4 F) : sProp 𝕄 := (d : Thread nD τ).loc cc0_stg4_0 ↦{fullShare} w
def oPts (d : Dev nD) (w : B5 F) : sProp 𝕄 := (d : Thread nD τ).loc cc0_stg5_0 ↦{fullShare} w

def qProg {n : ℕ} (o7 : Fin n → Fin 3 → ℕ) (i7 : ∀ k, ∀ a, o7 k a + S1x1024x128.size a ≤ S8x1024x128.size a)
    (p7 : ∀ k, (Rect.unit (s := S8x1024x128) (o7 k) S1x1024x128.size (i7 k)).PackedRows (EltTy.packing .bf16)) :
    Fin n → Unit → Prog (TpuEff nD τ sig (Elt F) Λ₀ .tc) Unit :=
  fun k _ => do
    let x : Vec F S1024x1024 .bf16 ← Prog.lift (.load BM0 all2.toLoadRect (View.loadsAt_vmem h_S1024x1024))
    let w : Vec F S1x1024x128 .bf16 ← Prog.lift (.load BM1 (Rect.unit (s := S8x1024x128) (o7 k) S1x1024x128.size (i7 k)).toLoadRect (View.loadsAt_vmem h_S1x1024x128))
    let _q : Vec F S1x1024x128 .bf16 ← Prog.lift (.load qM (Rect.unit (s := S8x1024x128) (o7 k) S1x1024x128.size (i7 k)).toLoadRect (View.loadsAt_vmem h_S1x1024x128))
    Prog.lift (.store qM (Rect.unit (s := S8x1024x128) (o7 k) S1x1024x128.size (i7 k)) (k0_pay30 x w) Finset.univ (View.stores_vmem h_S1x1024x128 ((Memref.isWhole_whole _).storeExact_slice rfl _ (p7 k)) (fun _ => rfl)) (.inl rfl))
    pure ⟨⟩

set_option maxHeartbeats 1600000 in
theorem wp_queries (d : Dev nD) (x : B0 F) (w : B1 F) (q : QBuf F)
    (lp : Scf.Loop 32) (hn : lp.trips = 8) {hok : lp.OK} {body : Fin lp.trips → Unit → Prog (TpuEff nD τ sig (Elt F) Λ₀ .tc) Unit}
    (o7 : Fin lp.trips → Fin 3 → ℕ) (i7) (p7) (hbody : body = qProg o7 i7 p7) (h7 : ∀ k, o7 k = ![k.val, 0, 0])
    (Q : PUnit → sProp 𝕄) {kk : Unit → Prog (TpuEff nD τ sig (Elt F) Λ₀ .tc) PUnit} :
    iprop(xPts d x ∗ wPts d w ∗ qPts d q)
      ⊢ iprop((iprop(xPts d x ∗ wPts d w ∗ qPts d (qAfter x w q 8)) -∗ wp frame (wpE (defs₀ (F := F)) 𝒱₀ d none) Set.univ (kk ⟨⟩) Q)
        -∗ wp frame (wpE (defs₀ (F := F)) 𝒱₀ d none) Set.univ (Scf.for lp.lb lp.ub lp.st hok ⟨⟩ body >>= kk) Q) := by
  subst hbody
  obtain rfl : o7 = fun k => ![k.val, 0, 0] := funext h7
  iintro H Hk
  iapply (Scf.wp_for_bind frame (wpE (defs₀ (F := F)) 𝒱₀ d none) Set.univ lp.lb lp.ub lp.st hok ⟨⟩ _
    (fun n _ => iprop(xPts d x ∗ wPts d w ∗ qPts d (qAfter x w q n))) ?_) $$ [H]
  · intro k u
    have hk : k.val < 8 := hn ▸ k.isLt
    rw [qAfter, dif_pos hk]
    simp only [qProg, Prog.lift, Prog.bind_op, Prog.bind_ret, Prog.pure_eq_ret]
    unfold xPts wPts qPts
    iintro ⟨Hx, Hw, Hq⟩
    iapply (wp_load 𝒱₀ (d : Thread nD τ) none Set.univ (m := BM0) (Finset.subset_univ _)) $$ Hx; iintro Hx
    iapply (wp_load 𝒱₀ (d : Thread nD τ) none Set.univ (m := BM1) (Finset.subset_univ _)) $$ Hw; iintro Hw
    iapply (wp_load 𝒱₀ (d : Thread nD τ) none Set.univ (m := qM) (Finset.subset_univ _)) $$ Hq; iintro Hq
    iapply (wp_store 𝒱₀ (d : Thread nD τ) none Set.univ (m := qM) (r := row7 hk) (f := qAfter x w q k.val) (Finset.subset_univ _)) $$ Hq; iintro Hq
    rw [wp_ret]
    imodintro
    isplitl [Hx]; · iexact Hx
    isplitl [Hw]; · iexact Hw
    iexact Hq
  · iexact H
  iintro %u H
  iapply Hk
  rw [show Scf.trips lp.lb lp.ub lp.st = 8 from hn]
  iexact H

/-! ## The output -/

theorem inb4 {k : ℕ} (h : k < 8) : ∀ a, (![k, 0, 0] : Fin 3 → ℕ) a + S1x128x1024.size a ≤ S8x128x1024.size a := by
  intro a
  fin_cases a
  · show k + 1 ≤ 8; omega
  · show 0 + 128 ≤ 128; omega
  · show 0 + 1024 ≤ 1024; omega
abbrev row4 {k : ℕ} (h : k < 8) : Rect S8x128x1024 := Rect.unit (s := S8x128x1024) ![k, 0, 0] S1x128x1024.size (inb4 h)
abbrev rd4 {k : ℕ} (h : k < 8) (f : B4 F) : Vec F S1x128x1024 .bf16 := BM4.view.readAt (Elt F) (row4 h).toLoadRect f

def headO (a : ABuf F) (l : LBuf F) (wo : B4 F) {k : ℕ} (h : k < 8) (o : B5 F) : B5 F :=
  (BM5.access all2).write (Elt F) o (k0_pay1 (rdA h a) (rdL h l) (rd5 o) (rd4 h wo)) Finset.univ
def oAfter (a : ABuf F) (l : LBuf F) (wo : B4 F) (o : B5 F) : ℕ → B5 F
  | 0 => o
  | n + 1 => if h : n < 8 then headO a l wo h (oAfter a l wo o n) else oAfter a l wo o n

def oProg {n : ℕ} (o7 : Fin n → Fin 3 → ℕ) (i7 : ∀ k, ∀ a, o7 k a + S1x1024x128.size a ≤ S8x1024x128.size a)
    (o9 : Fin n → Fin 3 → ℕ) (i9 : ∀ k, ∀ a, o9 k a + S1x1024x1.size a ≤ S8x1024x1.size a)
    (o4 : Fin n → Fin 3 → ℕ) (i4 : ∀ k, ∀ a, o4 k a + S1x128x1024.size a ≤ S8x128x1024.size a) :
    Fin n → Unit → Prog (TpuEff nD τ sig (Elt F) Λ₀ .tc) Unit :=
  fun k _ => do
    let a : Vec F S1x1024x128 .f32 ← Prog.lift (.load aM (Rect.unit (s := S8x1024x128) (o7 k) S1x1024x128.size (i7 k)).toLoadRect (View.loadsAt_vmem h_S1x1024x128))
    let l : Vec F S1x1024x1 .f32 ← Prog.lift (.load lM (Rect.unit (s := S8x1024x1) (o9 k) S1x1024x1.size (i9 k)).toLoadRect (View.loadsAt_vmem h_S1x1024x1))
    let o : Vec F S1024x1024 .f32 ← Prog.lift (.load BM5 all2.toLoadRect (View.loadsAt_vmem h_S1024x1024))
    let w : Vec F S1x128x1024 .bf16 ← Prog.lift (.load BM4 (Rect.unit (s := S8x128x1024) (o4 k) S1x128x1024.size (i4 k)).toLoadRect (View.loadsAt_vmem h_S1x128x1024))
    let _o' : Vec F S1024x1024 .f32 ← Prog.lift (.load BM5 all2.toLoadRect (View.loadsAt_vmem h_S1024x1024))
    Prog.lift (.store BM5 all2 (k0_pay1 a l o w) Finset.univ (View.stores_vmem_bits_univ h_S1024x1024 rfl) (.inl rfl))
    pure ⟨⟩

set_option maxHeartbeats 1600000 in
theorem wp_outputs (d : Dev nD) (a : ABuf F) (l : LBuf F) (wo : B4 F) (o : B5 F)
    (lp : Scf.Loop 32) (hn : lp.trips = 8) {hok : lp.OK} {body : Fin lp.trips → Unit → Prog (TpuEff nD τ sig (Elt F) Λ₀ .tc) Unit}
    (o7 : Fin lp.trips → Fin 3 → ℕ) (i7) (o9 : Fin lp.trips → Fin 3 → ℕ) (i9) (o4 : Fin lp.trips → Fin 3 → ℕ) (i4) (hbody : body = oProg o7 i7 o9 i9 o4 i4)
    (h7 : ∀ k, o7 k = ![k.val, 0, 0]) (h9 : ∀ k, o9 k = ![k.val, 0, 0]) (h4 : ∀ k, o4 k = ![k.val, 0, 0])
    (Q : PUnit → sProp 𝕄) {kk : Unit → Prog (TpuEff nD τ sig (Elt F) Λ₀ .tc) PUnit} :
    iprop(aPts d a ∗ lPts d l ∗ woPts d wo ∗ oPts d o)
      ⊢ iprop((iprop(aPts d a ∗ lPts d l ∗ woPts d wo ∗ oPts d (oAfter a l wo o 8)) -∗ wp frame (wpE (defs₀ (F := F)) 𝒱₀ d none) Set.univ (kk ⟨⟩) Q)
        -∗ wp frame (wpE (defs₀ (F := F)) 𝒱₀ d none) Set.univ (Scf.for lp.lb lp.ub lp.st hok ⟨⟩ body >>= kk) Q) := by
  subst hbody
  obtain rfl : o7 = fun k => ![k.val, 0, 0] := funext h7
  obtain rfl : o9 = fun k => ![k.val, 0, 0] := funext h9
  obtain rfl : o4 = fun k => ![k.val, 0, 0] := funext h4
  iintro H Hk
  iapply (Scf.wp_for_bind frame (wpE (defs₀ (F := F)) 𝒱₀ d none) Set.univ lp.lb lp.ub lp.st hok ⟨⟩ _
    (fun n _ => iprop(aPts d a ∗ lPts d l ∗ woPts d wo ∗ oPts d (oAfter a l wo o n))) ?_) $$ [H]
  · intro k u
    have hk : k.val < 8 := hn ▸ k.isLt
    rw [oAfter, dif_pos hk]
    simp only [oProg, Prog.lift, Prog.bind_op, Prog.bind_ret, Prog.pure_eq_ret]
    unfold aPts lPts woPts oPts
    iintro ⟨Ha, Hl, Hw, Ho⟩
    iapply (wp_load 𝒱₀ (d : Thread nD τ) none Set.univ (m := aM) (Finset.subset_univ _)) $$ Ha; iintro Ha
    iapply (wp_load 𝒱₀ (d : Thread nD τ) none Set.univ (m := lM) (Finset.subset_univ _)) $$ Hl; iintro Hl
    iapply (wp_load 𝒱₀ (d : Thread nD τ) none Set.univ (m := BM5) (Finset.subset_univ _)) $$ Ho; iintro Ho
    iapply (wp_load 𝒱₀ (d : Thread nD τ) none Set.univ (m := BM4) (Finset.subset_univ _)) $$ Hw; iintro Hw
    iapply (wp_load 𝒱₀ (d : Thread nD τ) none Set.univ (m := BM5) (Finset.subset_univ _)) $$ Ho; iintro Ho
    iapply (wp_store 𝒱₀ (d : Thread nD τ) none Set.univ (m := BM5) (r := all2) (f := oAfter a l wo o k.val) (Finset.subset_univ _)) $$ Ho; iintro Ho
    rw [wp_ret]
    imodintro
    isplitl [Ha]; · iexact Ha
    isplitl [Hl]; · iexact Hl
    isplitl [Hw]; · iexact Hw
    iexact Ho
  · iexact H
  iintro %u H
  iapply Hk
  rw [show Scf.trips lp.lb lp.ub lp.st = 8 from hn]
  iexact H

end Cert.KernelIdealProof
-- ==== Proof.KernelIdealSums.lean ====
/-
  The masks of the eight steps, the running sums through them, and the names of the kernel's semaphores and devices.
-/
module

public import proofs.«01_k».proof.Proof.KernelIdealStep
public import proofs.«01_k».proof.Proof.KernelIdealEnds

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Masks -/

/-- The device's place on the ring, as the kernel computes it. -/
def my (d : Dev nD) : BitVec 32 := Scalar.remsi (Scalar.divsi (Dev.word d) 1#32) 8#32
def cols : IVec S1x1024 32 := iota .tc S1x1024 32 [1] iota_S1x1024_d1_w32
def rows (d : Dev nD) : IVec S1024x1 32 := k0_pay28 (my d)
def rows3 (d : Dev nD) : IVec S1024x1 32 := k0_pay29 (rows d)

/-- The kernel's mask at each step. -/
def msk (d : Dev nD) : ℕ → Mask
  | 0 => k0_pay38 (rows d) (rows3 d) (k0_pay34 (my d) cols) (k0_pay35 cols) (k0_pay36 cols) (k0_pay37 cols)
  | 1 => k0_pay41 (rows d) (rows3 d) cols (k0_pay39 (my d) cols) 64#32 (k0_pay40 cols)
  | 2 => k0_pay44 (rows3 d) (k0_pay42 (my d) cols) (k0_pay43 (my d) (rows d) cols)
  | 3 => k0_pay48 (rows d) (rows3 d) cols (k0_pay45 (my d) cols) 64#32 (k0_pay46 cols) (k0_pay47 cols) (Scalar.extui (Scalar.cmpi .sgt 64#32 0#32)) (Scalar.cmpi .slt 64#32 0#32)
  | 4 => k0_pay50 (rows d) (rows3 d) cols (Scalar.remsi (Scalar.addi (Scalar.subi (my d) 4#32) 8#32) 8#32) (Scalar.remsi (Scalar.addi (my d) 4#32) 8#32) (k0_pay49 cols) 16#32
  | 5 => k0_pay53 (rows d) (rows3 d) (k0_pay51 (my d) cols) (k0_pay52 cols)
  | 6 => k0_pay57 (rows d) (rows3 d) cols (k0_pay54 (my d) cols) 64#32 (k0_pay55 cols) (k0_pay56 cols) 0#32
  | _ => k0_pay60 (rows d) (rows3 d) (k0_pay58 (my d) cols) (k0_pay59 cols)

/-! ## Running sums -/

variable (pc : Dev nD → Piece F) (d : Dev nD)

/-- The cleared sums. -/
def aZero (a : ABuf F) : ABuf F := (aM.access all3).write (Elt F) a (k0_pay32 (k0_pay31 (F := F))) Finset.univ
def lZero (l : LBuf F) : LBuf F := (lM.access all9).write (Elt F) l (k0_pay33 (F := F)) Finset.univ
/-- Before step `c`. -/
def lSt (q : QBuf F) (l : LBuf F) : ℕ → LBuf F
  | 0 => lZero l
  | c + 1 => lAfter (msk d c) (sl c) q (kvAt pc d c) (lSt q l c) 8
def aSt (q : QBuf F) (a : ABuf F) : ℕ → ABuf F
  | 0 => aZero a
  | c + 1 => aAfter (msk d c) (sl c) q (kvAt pc d c) (aSt q a c) 8

/-- The result's buffer at the end. -/
def oOut (x : B0 F) (w : B1 F) (wo : B4 F) (q : QBuf F) (a : ABuf F) (l : LBuf F) (o : B5 F) : B5 F :=
  oAfter (aSt pc d (qAfter x w q 8) a 8) (lSt pc d (qAfter x w q 8) l 8) wo ((BM5.access all2).write (Elt F) o (k0_pay61 (F := F)) Finset.univ) 8

/-! ## Semaphores and devices by name -/

theorem slice_4_0 : ((cc0_scratch4.slice (Rect.unit (s := S7) ![0] ![1] inb_S7_S1_0)).squeeze S_ squeezes_S1_S_).sem = sx (false, 0, 0) := rfl
theorem slice_4_1 : ((cc0_scratch4.slice (Rect.unit (s := S7) ![1] ![1] inb_S7_S1_1)).squeeze S_ squeezes_S1_S_).sem = sx (false, 0, 1) := rfl
theorem slice_4_2 : ((cc0_scratch4.slice (Rect.unit (s := S7) ![2] ![1] inb_S7_S1_2)).squeeze S_ squeezes_S1_S_).sem = sx (false, 0, 2) := rfl
theorem slice_4_3 : ((cc0_scratch4.slice (Rect.unit (s := S7) ![3] ![1] inb_S7_S1_3)).squeeze S_ squeezes_S1_S_).sem = sx (false, 0, 3) := rfl
theorem slice_4_4 : ((cc0_scratch4.slice (Rect.unit (s := S7) ![4] ![1] inb_S7_S1_4)).squeeze S_ squeezes_S1_S_).sem = sx (false, 0, 4) := rfl
theorem slice_4_5 : ((cc0_scratch4.slice (Rect.unit (s := S7) ![5] ![1] inb_S7_S1_5)).squeeze S_ squeezes_S1_S_).sem = sx (false, 0, 5) := rfl
theorem slice_4_6 : ((cc0_scratch4.slice (Rect.unit (s := S7) ![6] ![1] inb_S7_S1_6)).squeeze S_ squeezes_S1_S_).sem = sx (false, 0, 6) := rfl
theorem slice_5_0 : ((cc0_scratch5.slice (Rect.unit (s := S7) ![0] ![1] inb_S7_S1_0)).squeeze S_ squeezes_S1_S_).sem = sx (true, 0, 0) := rfl
theorem slice_5_1 : ((cc0_scratch5.slice (Rect.unit (s := S7) ![1] ![1] inb_S7_S1_1)).squeeze S_ squeezes_S1_S_).sem = sx (true, 0, 1) := rfl
theorem slice_5_2 : ((cc0_scratch5.slice (Rect.unit (s := S7) ![2] ![1] inb_S7_S1_2)).squeeze S_ squeezes_S1_S_).sem = sx (true, 0, 2) := rfl
theorem slice_5_3 : ((cc0_scratch5.slice (Rect.unit (s := S7) ![3] ![1] inb_S7_S1_3)).squeeze S_ squeezes_S1_S_).sem = sx (true, 0, 3) := rfl
theorem slice_5_4 : ((cc0_scratch5.slice (Rect.unit (s := S7) ![4] ![1] inb_S7_S1_4)).squeeze S_ squeezes_S1_S_).sem = sx (true, 0, 4) := rfl
theorem slice_5_5 : ((cc0_scratch5.slice (Rect.unit (s := S7) ![5] ![1] inb_S7_S1_5)).squeeze S_ squeezes_S1_S_).sem = sx (true, 0, 5) := rfl
theorem slice_5_6 : ((cc0_scratch5.slice (Rect.unit (s := S7) ![6] ![1] inb_S7_S1_6)).squeeze S_ squeezes_S1_S_).sem = sx (true, 0, 6) := rfl
theorem slice_6_0 : ((cc0_scratch6.slice (Rect.unit (s := S7) ![0] ![1] inb_S7_S1_0)).squeeze S_ squeezes_S1_S_).sem = sx (false, 1, 0) := rfl
theorem slice_6_1 : ((cc0_scratch6.slice (Rect.unit (s := S7) ![1] ![1] inb_S7_S1_1)).squeeze S_ squeezes_S1_S_).sem = sx (false, 1, 1) := rfl
theorem slice_6_2 : ((cc0_scratch6.slice (Rect.unit (s := S7) ![2] ![1] inb_S7_S1_2)).squeeze S_ squeezes_S1_S_).sem = sx (false, 1, 2) := rfl
theorem slice_6_3 : ((cc0_scratch6.slice (Rect.unit (s := S7) ![3] ![1] inb_S7_S1_3)).squeeze S_ squeezes_S1_S_).sem = sx (false, 1, 3) := rfl
theorem slice_6_4 : ((cc0_scratch6.slice (Rect.unit (s := S7) ![4] ![1] inb_S7_S1_4)).squeeze S_ squeezes_S1_S_).sem = sx (false, 1, 4) := rfl
theorem slice_6_5 : ((cc0_scratch6.slice (Rect.unit (s := S7) ![5] ![1] inb_S7_S1_5)).squeeze S_ squeezes_S1_S_).sem = sx (false, 1, 5) := rfl
theorem slice_6_6 : ((cc0_scratch6.slice (Rect.unit (s := S7) ![6] ![1] inb_S7_S1_6)).squeeze S_ squeezes_S1_S_).sem = sx (false, 1, 6) := rfl
theorem slice_7_0 : ((cc0_scratch7.slice (Rect.unit (s := S7) ![0] ![1] inb_S7_S1_0)).squeeze S_ squeezes_S1_S_).sem = sx (true, 1, 0) := rfl
theorem slice_7_1 : ((cc0_scratch7.slice (Rect.unit (s := S7) ![1] ![1] inb_S7_S1_1)).squeeze S_ squeezes_S1_S_).sem = sx (true, 1, 1) := rfl
theorem slice_7_2 : ((cc0_scratch7.slice (Rect.unit (s := S7) ![2] ![1] inb_S7_S1_2)).squeeze S_ squeezes_S1_S_).sem = sx (true, 1, 2) := rfl
theorem slice_7_3 : ((cc0_scratch7.slice (Rect.unit (s := S7) ![3] ![1] inb_S7_S1_3)).squeeze S_ squeezes_S1_S_).sem = sx (true, 1, 3) := rfl
theorem slice_7_4 : ((cc0_scratch7.slice (Rect.unit (s := S7) ![4] ![1] inb_S7_S1_4)).squeeze S_ squeezes_S1_S_).sem = sx (true, 1, 4) := rfl
theorem slice_7_5 : ((cc0_scratch7.slice (Rect.unit (s := S7) ![5] ![1] inb_S7_S1_5)).squeeze S_ squeezes_S1_S_).sem = sx (true, 1, 5) := rfl
theorem slice_7_6 : ((cc0_scratch7.slice (Rect.unit (s := S7) ![6] ![1] inb_S7_S1_6)).squeeze S_ squeezes_S1_S_).sem = sx (true, 1, 6) := rfl

theorem dev_1 (d : Dev nD) : (⟨k0_dev1 d, k0_dev1_lt d⟩ : Dev nD) = nb 1 d := Fin.ext ((k0_dev1_eq d).trans (by rfl))
theorem dev_2 (d : Dev nD) : (⟨k0_dev2 d, k0_dev2_lt d⟩ : Dev nD) = nb 0 d := Fin.ext ((k0_dev2_eq d).trans (by rfl))
theorem dev_3 (d : Dev nD) : (⟨k0_dev3 d, k0_dev3_lt d⟩ : Dev nD) = nb 0 d := Fin.ext ((k0_dev3_eq d).trans (by rfl))
theorem dev_4 (d : Dev nD) : (⟨k0_dev4 d, k0_dev4_lt d⟩ : Dev nD) = nb 1 d := Fin.ext ((k0_dev4_eq d).trans (by rfl))
theorem dev_5 (d : Dev nD) : (⟨k0_dev5 d, k0_dev5_lt d⟩ : Dev nD) = nb 0 d := Fin.ext ((k0_dev5_eq d).trans (by rfl))
theorem dev_6 (d : Dev nD) : (⟨k0_dev6 d, k0_dev6_lt d⟩ : Dev nD) = nb 1 d := Fin.ext ((k0_dev6_eq d).trans (by rfl))
theorem dev_7 (d : Dev nD) : (⟨k0_dev7 d, k0_dev7_lt d⟩ : Dev nD) = nb 0 d := Fin.ext ((k0_dev7_eq d).trans (by rfl))
theorem dev_8 (d : Dev nD) : (⟨k0_dev8 d, k0_dev8_lt d⟩ : Dev nD) = nb 1 d := Fin.ext ((k0_dev8_eq d).trans (by rfl))
theorem dev_9 (d : Dev nD) : (⟨k0_dev9 d, k0_dev9_lt d⟩ : Dev nD) = nb 0 d := Fin.ext ((k0_dev9_eq d).trans (by rfl))
theorem dev_10 (d : Dev nD) : (⟨k0_dev10 d, k0_dev10_lt d⟩ : Dev nD) = nb 1 d := Fin.ext ((k0_dev10_eq d).trans (by rfl))
theorem dev_11 (d : Dev nD) : (⟨k0_dev11 d, k0_dev11_lt d⟩ : Dev nD) = nb 0 d := Fin.ext ((k0_dev11_eq d).trans (by rfl))
theorem dev_12 (d : Dev nD) : (⟨k0_dev12 d, k0_dev12_lt d⟩ : Dev nD) = nb 1 d := Fin.ext ((k0_dev12_eq d).trans (by rfl))
theorem dev_13 (d : Dev nD) : (⟨k0_dev13 d, k0_dev13_lt d⟩ : Dev nD) = nb 0 d := Fin.ext ((k0_dev13_eq d).trans (by rfl))
theorem dev_14 (d : Dev nD) : (⟨k0_dev14 d, k0_dev14_lt d⟩ : Dev nD) = nb 1 d := Fin.ext ((k0_dev14_eq d).trans (by rfl))
theorem dev_15 (d : Dev nD) : (⟨k0_dev15 d, k0_dev15_lt d⟩ : Dev nD) = nb 0 d := Fin.ext ((k0_dev15_eq d).trans (by rfl))
theorem dev_16 (d : Dev nD) : (⟨k0_dev16 d, k0_dev16_lt d⟩ : Dev nD) = nb 1 d := Fin.ext ((k0_dev16_eq d).trans (by rfl))

end Cert.KernelIdealProof
-- ==== Proof.KernelIdealRows.lean ====
/-
  What the head-by-head writes leave, read at an index; the result does not depend on what the buffers held before.
-/
module

public import proofs.«01_k».proof.Proof.KernelIdealSums

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Row `j`, column `e` of one head. -/
def at1 (j : Fin 1024) (e : Fin 128) : S1x1024x128.Idx := fun a => match a with | 0 => (0 : Fin 1) | 1 => j | 2 => e
def at1' (j : Fin 1024) : S1x1024x1.Idx := fun a => match a with | 0 => (0 : Fin 1) | 1 => j | 2 => (0 : Fin 1)

theorem qrow {k : ℕ} (h : k < 8) (i : S8x1024x128.Idx) (hi : (i 0).val = k) : i = (qM.access (row7 h)).emb (at1 (i 1) (i 2)) := by
  funext a
  apply Fin.ext
  fin_cases a
  · show (i 0).val = k + 1 * 0; omega
  · show (i 1).val = 0 + 1 * (i 1).val; omega
  · show (i 2).val = 0 + 1 * (i 2).val; omega
theorem qrow_not {k : ℕ} (h : k < 8) (i : S8x1024x128.Idx) (hi : (i 0).val ≠ k) : i ∉ (qM.access (row7 h)).setOn Finset.univ := by
  rw [View.setOn_univ, View.set_slice_whole]
  intro hm
  have h0 := (Rect.mem_set_unit.1 hm) 0
  have e1 : k ≤ (i 0).val := h0.1
  have e2 : (i 0).val < k + 1 := h0.2
  omega
theorem arow {k : ℕ} (h : k < 8) (i : S8x1024x128.Idx) (hi : (i 0).val = k) : i = (aM.access (row7 h)).emb (at1 (i 1) (i 2)) := by
  funext a
  apply Fin.ext
  fin_cases a
  · show (i 0).val = k + 1 * 0; omega
  · show (i 1).val = 0 + 1 * (i 1).val; omega
  · show (i 2).val = 0 + 1 * (i 2).val; omega
theorem arow_not {k : ℕ} (h : k < 8) (i : S8x1024x128.Idx) (hi : (i 0).val ≠ k) : i ∉ (aM.access (row7 h)).setOn Finset.univ := by
  rw [View.setOn_univ, View.set_slice_whole]
  intro hm
  have h0 := (Rect.mem_set_unit.1 hm) 0
  have e1 : k ≤ (i 0).val := h0.1
  have e2 : (i 0).val < k + 1 := h0.2
  omega
theorem lrow {k : ℕ} (h : k < 8) (i : S8x1024x1.Idx) (hi : (i 0).val = k) : i = (lM.access (row9 h)).emb (at1' (i 1)) := by
  funext a
  apply Fin.ext
  fin_cases a
  · show (i 0).val = k + 1 * 0; omega
  · show (i 1).val = 0 + 1 * (i 1).val; omega
  · have h2 : (i 2).val < 1 := (i 2).isLt
    show (i 2).val = 0 + 1 * 0; omega
theorem lrow_not {k : ℕ} (h : k < 8) (i : S8x1024x1.Idx) (hi : (i 0).val ≠ k) : i ∉ (lM.access (row9 h)).setOn Finset.univ := by
  rw [View.setOn_univ, View.set_slice_whole]
  intro hm
  have h0 := (Rect.mem_set_unit.1 hm) 0
  have e1 : k ≤ (i 0).val := h0.1
  have e2 : (i 0).val < k + 1 := h0.2
  omega

theorem qwrite {k : ℕ} (h : k < 8) (q : QBuf F) (v : Vec F S1x1024x128 .bf16) (i : S8x1024x128.Idx) :
    (qM.access (row7 h)).write (Elt F) q v Finset.univ i = if (i 0).val = k then v (at1 (i 1) (i 2)) else q i := by
  split
  · rename_i hk
    conv_lhs => rw [qrow h i hk]
    exact View.write_emb_of_mem _ _ (Finset.mem_univ _)
  · rename_i hk
    exact View.write_of_not_mem _ _ _ (qrow_not h i hk)
theorem awrite {k : ℕ} (h : k < 8) (q : ABuf F) (v : Vec F S1x1024x128 .f32) (i : S8x1024x128.Idx) :
    (aM.access (row7 h)).write (Elt F) q v Finset.univ i = if (i 0).val = k then v (at1 (i 1) (i 2)) else q i := by
  split
  · rename_i hk
    conv_lhs => rw [arow h i hk]
    exact View.write_emb_of_mem _ _ (Finset.mem_univ _)
  · rename_i hk
    exact View.write_of_not_mem _ _ _ (arow_not h i hk)
theorem lwrite {k : ℕ} (h : k < 8) (q : LBuf F) (v : Vec F S1x1024x1 .f32) (i : S8x1024x1.Idx) :
    (lM.access (row9 h)).write (Elt F) q v Finset.univ i = if (i 0).val = k then v (at1' (i 1)) else q i := by
  split
  · rename_i hk
    conv_lhs => rw [lrow h i hk]
    exact View.write_emb_of_mem _ _ (Finset.mem_univ _)
  · rename_i hk
    exact View.write_of_not_mem _ _ _ (lrow_not h i hk)

/-- Head `k`, row `j`, column `e`. -/
def at7 {k : ℕ} (h : k < 8) (j : Fin 1024) (e : Fin 128) : S8x1024x128.Idx := fun a => match a with | 0 => (⟨k, h⟩ : Fin 8) | 1 => j | 2 => e
def at9 {k : ℕ} (h : k < 8) (j : Fin 1024) : S8x1024x1.Idx := fun a => match a with | 0 => (⟨k, h⟩ : Fin 8) | 1 => j | 2 => (0 : Fin 1)

theorem rdQ_at {k : ℕ} (h : k < 8) (q : QBuf F) : rdQ h q = fun j => q (at7 h (j 1) (j 2)) := by
  funext j
  show q ((qM.access (row7 h)).emb j) = _
  congr 1
  funext a
  apply Fin.ext
  have h0 : (j 0).val < 1 := (j 0).isLt
  fin_cases a
  · show k + 1 * (j 0).val = k; omega
  · show 0 + 1 * (j 1).val = (j 1).val; omega
  · show 0 + 1 * (j 2).val = (j 2).val; omega
theorem rdA_at {k : ℕ} (h : k < 8) (q : ABuf F) : rdA h q = fun j => q (at7 h (j 1) (j 2)) := by
  funext j
  show q ((aM.access (row7 h)).emb j) = _
  congr 1
  funext a
  apply Fin.ext
  have h0 : (j 0).val < 1 := (j 0).isLt
  fin_cases a
  · show k + 1 * (j 0).val = k; omega
  · show 0 + 1 * (j 1).val = (j 1).val; omega
  · show 0 + 1 * (j 2).val = (j 2).val; omega
theorem rdL_at {k : ℕ} (h : k < 8) (q : LBuf F) : rdL h q = fun j => q (at9 h (j 1)) := by
  funext j
  show q ((lM.access (row9 h)).emb j) = _
  congr 1
  funext a
  apply Fin.ext
  have h0 : (j 0).val < 1 := (j 0).isLt
  have h2 : (j 2).val < 1 := (j 2).isLt
  fin_cases a
  · show k + 1 * (j 0).val = k; omega
  · show 0 + 1 * (j 1).val = (j 1).val; omega
  · show 0 + 1 * (j 2).val = 0; omega

/-! ## The loops -/

theorem qAfter_at (x : B0 F) (w : B1 F) (q : QBuf F) (i : S8x1024x128.Idx) : ∀ n, n ≤ 8 →
    qAfter x w q n i = if (i 0).val < n then k0_pay30 (rd0 x) (rd1 (i 0).isLt w) (at1 (i 1) (i 2)) else q i := by
  intro n
  induction n with
  | zero => intro _; rw [qAfter, if_neg (Nat.not_lt_zero _)]
  | succ n ih =>
    intro hn
    rw [qAfter, dif_pos (show n < 8 by omega), headQ, qwrite]
    by_cases h : (i 0).val = n
    · subst h
      rw [if_pos rfl, if_pos (Nat.lt_succ_self _)]
    · rw [if_neg h, ih (by omega)]
      by_cases h' : (i 0).val < n
      · rw [if_pos h', if_pos (by omega)]
      · rw [if_neg h', if_neg (by omega)]

theorem lAfter_at (m : Mask) (s : Fin 3) (q : QBuf F) (f : Kv F) (l : LBuf F) : ∀ n, n ≤ 8 → ∀ i : S8x1024x1.Idx,
    lAfter m s q f l n i = if (i 0).val < n then
      k0_pay3 m (rdQ (i 0).isLt q) (rdKV s (Nat.lt_of_lt_of_le (i 0).isLt (by decide)) f) (rdL (i 0).isLt l) (at1' (i 1)) else l i := by
  intro n
  induction n with
  | zero => intro _ i; rw [lAfter, if_neg (Nat.not_lt_zero _)]
  | succ n ih =>
    intro hn i
    have hl : rdL (show n < 8 by omega) (lAfter m s q f l n) = rdL (show n < 8 by omega) l := by
      rw [rdL_at, rdL_at]
      funext j
      rw [ih (by omega)]
      exact if_neg (show ¬ n < n by omega)
    rw [lAfter, dif_pos (show n < 8 by omega), headL, hl, lwrite]
    by_cases h : (i 0).val = n
    · subst h
      rw [if_pos rfl, if_pos (Nat.lt_succ_self _)]
    · rw [if_neg h, ih (by omega)]
      by_cases h' : (i 0).val < n
      · rw [if_pos h', if_pos (by omega)]
      · rw [if_neg h', if_neg (by omega)]

theorem aAfter_at (m : Mask) (s : Fin 3) (q : QBuf F) (f : Kv F) (l : ABuf F) : ∀ n, n ≤ 8 → ∀ i : S8x1024x128.Idx,
    aAfter m s q f l n i = if (i 0).val < n then
      k0_pay4 m (rdQ (i 0).isLt q) (rdKV s (Nat.lt_of_lt_of_le (i 0).isLt (by decide)) f) (rdA (i 0).isLt l)
        (rdKV s (Nat.add_lt_add_right (i 0).isLt 8) f) (at1 (i 1) (i 2)) else l i := by
  intro n
  induction n with
  | zero => intro _ i; rw [aAfter, if_neg (Nat.not_lt_zero _)]
  | succ n ih =>
    intro hn i
    have hl : rdA (show n < 8 by omega) (aAfter m s q f l n) = rdA (show n < 8 by omega) l := by
      rw [rdA_at, rdA_at]
      funext j
      rw [ih (by omega)]
      exact if_neg (show ¬ n < n by omega)
    rw [aAfter, dif_pos (show n < 8 by omega), headA, hl, awrite]
    by_cases h : (i 0).val = n
    · subst h
      rw [if_pos rfl, if_pos (Nat.lt_succ_self _)]
    · rw [if_neg h, ih (by omega)]
      by_cases h' : (i 0).val < n
      · rw [if_pos h', if_pos (by omega)]
      · rw [if_neg h', if_neg (by omega)]

/-! ## Whole buffers written -/

theorem aZero_eq (a : ABuf F) : aZero a = k0_pay32 (k0_pay31 (F := F)) := by
  funext i
  have e : i = (aM.access all3).emb i := by
    funext a
    apply Fin.ext
    fin_cases a
    · show (i 0).val = 0 + 1 * (i 0).val; omega
    · show (i 1).val = 0 + 1 * (i 1).val; omega
    · show (i 2).val = 0 + 1 * (i 2).val; omega
  unfold aZero
  conv_lhs => rw [e]
  exact View.write_emb_of_mem _ _ (Finset.mem_univ _)
theorem lZero_eq (a : LBuf F) : lZero a = k0_pay33 (F := F) := by
  funext i
  have e : i = (lM.access all9).emb i := by
    funext a
    apply Fin.ext
    fin_cases a
    · show (i 0).val = 0 + 1 * (i 0).val; omega
    · show (i 1).val = 0 + 1 * (i 1).val; omega
    · show (i 2).val = 0 + 1 * (i 2).val; omega
  unfold lZero
  conv_lhs => rw [e]
  exact View.write_emb_of_mem _ _ (Finset.mem_univ _)
theorem emb5 (i : S1024x1024.Idx) : (BM5.access all2).emb i = i := by
  funext a
  apply Fin.ext
  fin_cases a
  · show 0 + 1 * (i 0).val = (i 0).val; omega
  · show 0 + 1 * (i 1).val = (i 1).val; omega
theorem owrite (o : B5 F) (v : Vec F S1024x1024 .f32) : (BM5.access all2).write (Elt F) o v Finset.univ = v := by
  funext i
  conv_lhs => rw [← emb5 i]
  exact View.write_emb_of_mem _ _ (Finset.mem_univ _)

/-! ## The result, whatever the buffers held -/

/-- The queries. -/
def qFin (x : B0 F) (w : B1 F) : QBuf F := fun i => k0_pay30 (rd0 x) (rd1 (i 0).isLt w) (at1 (i 1) (i 2))

theorem qAfter_eq (x : B0 F) (w : B1 F) (q : QBuf F) : qAfter x w q 8 = qFin x w := by
  funext i
  have h : (i 0).val < 8 := (i 0).isLt
  rw [qAfter_at _ _ _ _ 8 (le_refl _), if_pos h]
  rfl

variable (pc : Dev nD → Piece F) (d : Dev nD)

/-- The running sums before step `c`. -/
def lFin (x : B0 F) (w : B1 F) : ℕ → LBuf F
  | 0 => k0_pay33 (F := F)
  | c + 1 => lAfter (msk d c) (sl c) (qFin x w) (kvAt pc d c) (lFin x w c) 8
def aFin (x : B0 F) (w : B1 F) : ℕ → ABuf F
  | 0 => k0_pay32 (k0_pay31 (F := F))
  | c + 1 => aAfter (msk d c) (sl c) (qFin x w) (kvAt pc d c) (aFin x w c) 8

theorem lSt_eq (x : B0 F) (w : B1 F) (l : LBuf F) (c : ℕ) : lSt pc d (qFin x w) l c = lFin pc d x w c := by
  induction c with
  | zero => rw [lSt, lFin, lZero_eq]
  | succ c ih => rw [lSt, lFin, ih]
theorem aSt_eq (x : B0 F) (w : B1 F) (l : ABuf F) (c : ℕ) : aSt pc d (qFin x w) l c = aFin pc d x w c := by
  induction c with
  | zero => rw [aSt, aFin, aZero_eq]
  | succ c ih => rw [aSt, aFin, ih]

/-- The output after the first `n` heads. -/
def oFin (x : B0 F) (w : B1 F) (wo : B4 F) : B5 F :=
  oAfter (aFin pc d x w 8) (lFin pc d x w 8) wo (k0_pay61 (F := F)) 8

theorem oOut_eq (x : B0 F) (w : B1 F) (wo : B4 F) (q : QBuf F) (a : ABuf F) (l : LBuf F) (o : B5 F) :
    oOut pc d x w wo q a l o = oFin pc d x w wo := by
  unfold oOut oFin
  rw [qAfter_eq, owrite, lSt_eq, aSt_eq]

end Cert.KernelIdealProof
-- ==== Proof.KernelIdealRound.lean ====
/-
  The opening of the exchange (both neighbours signalled and heard from), and one whole step of it with the running sums.
-/
module

public import proofs.«01_k».proof.Proof.KernelIdealSums

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (pc : Dev nD → Piece F) (K : GSem nD τ sig → ℕ) (d : Dev nD)

/-! ## The half slots that are neither in hand nor on loan -/

/-- What else a device holds before step `c`. -/
def next (c : ℕ) : sProp 𝕄 :=
  if c = 0 then iprop(dst d 0 ∗ dst d 1) else if c ≤ 6 then iprop(dst d c ∗ old d c) else iprop(old d 7 ∗ old d 6)
/-- What of it stays through step `c`. -/
def keep (c : ℕ) : sProp 𝕄 := if c = 0 then dst d 1 else if c ≤ 5 then iprop(emp) else old d 6

theorem next_out (c : Fin 7) : (next d c.val : sProp 𝕄) ⊢ iprop(dst d c.val ∗ fbOut d c ∗ keep d c.val) := by
  unfold next keep
  have hc := c.isLt
  by_cases h0 : c.val = 0
  · rw [if_pos h0, if_pos h0, h0]
    iintro ⟨H0, H1⟩
    isplitl [H0]; · iexact H0
    isplitr; · iapply (fbOut_edge d (c := c) (by omega)); iempintro
    iexact H1
  · rw [if_neg h0, if_neg h0, if_pos (by omega)]
    by_cases h5 : c.val ≤ 5
    · rw [if_pos h5]
      iintro ⟨H0, H1⟩
      isplitl [H0]; · iexact H0
      isplitl [H1]; · iapply (old_out d (c := c) (by omega)); iexact H1
      iempintro
    · rw [if_neg h5]
      have h6 : c.val = 6 := by omega
      iintro ⟨H0, H1⟩
      isplitl [H0]; · iexact H0
      isplitr; · iapply (fbOut_edge d (c := c) (by omega)); iempintro
      rw [h6]
      iexact H1

theorem next_in (c : Fin 7) : iprop(keep d c.val ∗ cur pc d c.val ∗ fbIn d c) ⊢ (next d (c.val + 1) : sProp 𝕄) := by
  unfold next keep
  have hc := c.isLt
  rw [if_neg (Nat.succ_ne_zero c.val)]
  by_cases h0 : c.val = 0
  · rw [if_pos h0, if_pos (by omega), h0]
    iintro ⟨H0, H1, -⟩
    isplitl [H0]; · iexact H0
    iapply (cur_old pc d 0); iexact H1
  · rw [if_neg h0]
    by_cases h5 : c.val ≤ 5
    · rw [if_pos h5, if_pos (by omega)]
      iintro ⟨-, H1, H2⟩
      isplitl [H2]; · iapply (in_dst d (c := c) (by omega)); iexact H2
      iapply (cur_old pc d c.val); iexact H1
    · have h6 : c.val = 6 := by omega
      rw [if_neg h5, if_neg (by omega), h6]
      iintro ⟨H0, H1, -⟩
      isplitl [H1]; · iapply (cur_old pc d 6); iexact H1
      iexact H0

/-! ## Opening -/

/-- What a device holds for the opening signals. -/
def barIn : sProp 𝕄 :=
  iprop(dutyTok ER (barCell (nb 1 d)) 0 0 ∗ dutyTok ER (barCell (nb 0 d)) 0 1 ∗ reached ER (barCell (nb 1 d)) 0 ∗ reached ER (barCell (nb 0 d)) 0
    ∗ atPos ER (barCell d) 0 ∅ 0 ∗ cred (tallyAt (barCell d) () 2))
abbrev reach (b : Fin 2) (e : Dev nD) : sProp 𝕄 := bigSep Finset.univ fun c : Fin 7 => reached ER (rCell b c e) 0
/-- The two slots not yet used, any contents. -/
def free : sProp 𝕄 := iprop((∃ f, hPts 0 1 fullShare d f) ∗ (∃ f, hPts 0 2 fullShare d f) ∗ (∃ f, hPts 1 1 fullShare d f) ∗ (∃ f, hPts 1 2 fullShare d f))

theorem barPay_intro (b : Fin 2) : iprop((∃ f, hPts b 1 fullShare d f) ∗ (∃ f, hPts b 2 fullShare d f) ∗ reach b d) ⊢ (barPay b (nb (op b) d) : sProp 𝕄) := by
  unfold barPay; rw [nb_nb']

set_option maxHeartbeats 1600000 in
theorem wp_opening (Q : PUnit → sProp 𝕄) {k : PUnit → Prog (TpuEff nD τ sig (Elt F) Λ₀ .tc) PUnit} :
    iprop(invs pc K ∗ levAts L lv ∗ barIn d ∗ reach 0 d ∗ reach 1 d ∗ free d ∗ owing d (owe0 d))
      ⊢ iprop(((semVal (barCell d) 0 ∗ next d 0 ∗ reach 0 (nb 0 d) ∗ reach 1 (nb 1 d) ∗ owing d (owe d 0)) -∗ wp frame (wpE (defs₀ (F := F)) 𝒱₀ d none) Set.univ (k ⟨⟩) Q)
        -∗ wp frame (wpE (defs₀ (F := F)) 𝒱₀ d none) Set.univ
          (.op (.semSignal (nb 1 d, Proc.tc) barS (1#32).toInt) fun _ => .op (.semSignal (nb 0 d, Proc.tc) barS (1#32).toInt) fun _ => .op (.semWait barS (2#32).toInt) k) Q) := by
  unfold barIn free owe0
  iintro ⟨#Hinv, #Hlev, ⟨Ht0, Ht1, #Hb0, #Hb1, Hat, Hc⟩, #Hr0, #Hr1, ⟨H01, H02, H11, H12⟩, ⟨%W, HO⟩⟩ Hk
  iapply (Rounds.wp_signal 𝒱₀ ER (sched pc) (d : Thread nD τ) none (dst := (nb 1 d : Thread nD τ)) (κ := K (barCell (nb 1 d)))
      (d := (0 : Fin 2)) (by rw [duties_bar]; exact Finset.mem_univ _) ((amount_bar pc (nb 1 d) 0 0).trans (by decide)) () (owe1 d) rfl) $$ [HO Ht0 H01 H02]
  · isplitr; · iapply (inv_bar pc K (nb 1 d)); iexact Hinv
    isplitl [HO]; · iexact HO
    isplitl [Ht0]; · iexact Ht0
    isplitl [H01 H02]
    · rw [payload_bar]
      iapply (barPay_intro d 0)
      isplitl [H01]; · iexact H01
      isplitl [H02]; · iexact H02
      iexact Hr0
    · iexact Hb0
  iintro HO
  unfold owe1
  iapply (Rounds.wp_signal 𝒱₀ ER (sched pc) (d : Thread nD τ) none (dst := (nb 0 d : Thread nD τ)) (κ := K (barCell (nb 0 d)))
      (d := (1 : Fin 2)) (by rw [duties_bar]; exact Finset.mem_univ _) ((amount_bar pc (nb 0 d) 0 1).trans (by decide)) () (owe d 0) rfl) $$ [HO Ht1 H11 H12]
  · isplitr; · iapply (inv_bar pc K (nb 0 d)); iexact Hinv
    isplitl [HO]; · iexact HO
    isplitl [Ht1]; · iexact Ht1
    isplitl [H11 H12]
    · rw [payload_bar]
      iapply (barPay_intro d 1)
      isplitl [H11]; · iexact H11
      isplitl [H12]; · iexact H12
      iexact Hr1
    · iexact Hb1
  iintro HO
  iapply (Rounds.wp_wait_rest_token 𝒱₀ ER (sched pc) (d : Thread nD τ) none (κ := K (barCell d))
      (wpE_semWait_eq 𝒱₀ (d : Thread nD τ) none Set.univ) (Set.mem_univ _) () (O := owe d 0) (W := W) (R := 0) (m := 0) (T := ∅)
      (by rw [expect_bar]; decide)) $$ [Hc HO Hat]
  · isplitr; · iapply (inv_bar pc K d); iexact Hinv
    isplitl [Hc]; · iexact Hc
    isplitl [HO]; · iexact HO
    isplitr; · iapply (mayWait_owe d (.reg barS) 0 1 (by rw [kind_bar]; exact le_refl _) (by decide)); iexact Hlev
    iexact Hat
  iintro ⟨HO, Hat, -, Hpay⟩
  imod (close pc K (barCell d)) $$ [Hat] with Hv
  · isplitr; · iapply (inv_bar pc K d); iexact Hinv
    iexact Hat
  ihave Hp := (Entails.of_eq (rest_bar pc d)) $$ Hpay
  iapply Hk
  unfold barPay next dst
  rw [if_pos rfl]
  icases Hp with ⟨⟨Ha1, Ha2, Hra⟩, ⟨Hb1, Hb2, Hrb⟩⟩
  isplitl [Hv]; · iexact Hv
  isplitl [Ha1 Ha2 Hb1 Hb2]
  · isplitl [Ha1 Hb1]
    · isplitl [Ha1]; · iexact Ha1
      iexact Hb1
    · isplitl [Ha2]; · iexact Ha2
      iexact Hb2
  isplitl [Hra]; · iexact Hra
  isplitl [Hrb]; · iexact Hrb
  iexists _; iexact HO

/-! ## A step -/

def kits (c : Fin 7) : sProp 𝕄 := iprop(kit d 0 c ∗ kit d 1 c)
def dones (c : Fin 7) : sProp 𝕄 := iprop(done d 0 c ∗ done d 1 c)
/-- Between the sends and the loop. -/
def sending (c : Fin 7) : sProp 𝕄 := iprop(sPts (sl c.val) fullShare.right d (kvAt pc d c.val) ∗ sent d 0 c ∗ sent d 1 c ∗ keep d c.val ∗ owing d (owe d (c.val + 1)))
/-- Before step `c`, the sums aside. -/
def ready (c : ℕ) : sProp 𝕄 := iprop(cur pc d c ∗ next d c ∗ owing d (owe d c))
def sums (q : QBuf F) (a : ABuf F) (l : LBuf F) (c : ℕ) : sProp 𝕄 := iprop(qPts d q ∗ aPts d (aSt pc d q a c) ∗ lPts d (lSt pc d q l c))

theorem wp_go (c : Fin 7) (Q : PUnit → sProp 𝕄) {D0 D1 : Dev nD} (e0 : D0 = nb 0 d) (e1 : D1 = nb 1 d)
    {h1 : (vh 0 (sl c.val)).view.WordExact} {h2 : (vh 0 (sl (c.val + 1))).view.WordExact}
    {h3 : DmaTarget.Typed .vmem (.dma (sx (true, 0, c))) (DmaTarget.remote (nD := nD) (τ := τ) (p := Proc.tc) (Dev.tc D0) (vh 0 (sl (c.val + 1))) (.dma (sx (false, 0, c))) rfl)}
    {h1' : (vh 1 (sl c.val)).view.WordExact} {h2' : (vh 1 (sl (c.val + 1))).view.WordExact}
    {h3' : DmaTarget.Typed .vmem (.dma (sx (true, 1, c))) (DmaTarget.remote (nD := nD) (τ := τ) (p := Proc.tc) (Dev.tc D1) (vh 1 (sl (c.val + 1))) (.dma (sx (false, 1, c))) rfl)}
    {k : PUnit → Prog (TpuEff nD τ sig (Elt F) Λ₀ .tc) PUnit} :
    iprop(invs pc K ∗ ready pc d c.val ∗ kits d c)
      ⊢ iprop((sending pc d c -∗ wp frame (wpE (defs₀ (F := F)) 𝒱₀ d none) Set.univ (k ⟨⟩) Q) -∗ wp frame (wpE (defs₀ (F := F)) 𝒱₀ d none) Set.univ
          (.op (.enqueueDma (vh 0 (sl c.val)) (.remote (Dev.tc D0) (vh 0 (sl (c.val + 1))) (.dma (sx (false, 0, c)))) (.dma (sx (true, 0, c))) h1 h2 h3) fun _ =>
            .op (.enqueueDma (vh 1 (sl c.val)) (.remote (Dev.tc D1) (vh 1 (sl (c.val + 1))) (.dma (sx (false, 1, c)))) (.dma (sx (true, 1, c))) h1' h2' h3') k) Q) := by
  unfold ready kits sending
  iintro ⟨#Hinv, ⟨Hc, Hn, HO⟩, Hk0, Hk1⟩ Hk
  ihave Hn' := (next_out d c) $$ Hn
  icases Hn' with ⟨Hd, Hf, Hke⟩
  iapply (wp_sends pc K d c Q e0 e1) $$ [Hc Hd Hf Hk0 Hk1 HO]
  · isplitr; · iexact Hinv
    isplitl [Hc]; · iexact Hc
    isplitl [Hd]; · iexact Hd
    isplitl [Hf]; · iexact Hf
    isplitl [Hk0]; · iexact Hk0
    isplitl [Hk1]; · iexact Hk1
    iexact HO
  iintro ⟨Hs, Ha, Hb, HO⟩
  iapply Hk
  isplitl [Hs]; · iexact Hs
  isplitl [Ha]; · iexact Ha
  isplitl [Hb]; · iexact Hb
  isplitl [Hke]; · iexact Hke
  iexact HO

/-- A transfer of a half slot's shape moves the same amount wherever it lies. -/
theorem N_any (s : Memref sig .tc .vmem S16x512x128 .i8) : s.view.dmaCredit = N := rfl

theorem wp_work (c : Fin 7) (q : QBuf F) (a : ABuf F) (l : LBuf F) (Q : PUnit → sProp 𝕄)
    (lp : Scf.Loop 32) (hn : lp.trips = 8) {hok : lp.OK} {body : Fin lp.trips → Unit → Prog (TpuEff nD τ sig (Elt F) Λ₀ .tc) Unit}
    (o7 : Fin lp.trips → Fin 3 → ℕ) (i7) (o6 : Fin lp.trips → Fin 4 → ℕ) (i6) (o9 : Fin lp.trips → Fin 3 → ℕ) (i9) (o6' : Fin lp.trips → Fin 4 → ℕ) (i6')
    (hbody : body = headProg o7 i7 o6 i6 o9 i9 o6' i6' (msk d c.val))
    (g7 : ∀ k, o7 k = ![k.val, 0, 0]) (g6 : ∀ k, o6 k = ![(sl c.val).val, k.val, 0, 0]) (g9 : ∀ k, o9 k = ![k.val, 0, 0]) (g6' : ∀ k, o6' k = ![(sl c.val).val, k.val + 8, 0, 0])
    {s1 t1 s2 t2 s3 t3 s4 t4 : Memref sig .tc .vmem S16x512x128 .i8} {w1 : s1.view.WordExact} {x1 : t1.view.WordExact}
    {w2 : s2.view.WordExact} {x2 : t2.view.WordExact} {w3 : s3.view.WordExact} {x3 : t3.view.WordExact} {w4 : s4.view.WordExact} {x4 : t4.view.WordExact}
    {k : PUnit → Prog (TpuEff nD τ sig (Elt F) Λ₀ .tc) PUnit} :
    iprop(invs pc K ∗ levAts L lv ∗ sending pc d c ∗ sums pc d q a l c.val)
      ⊢ iprop(((ready pc d (c.val + 1) ∗ sums pc d q a l (c.val + 1) ∗ dones d c) -∗ wp frame (wpE (defs₀ (F := F)) 𝒱₀ d none) Set.univ (k ⟨⟩) Q) -∗ wp frame (wpE (defs₀ (F := F)) 𝒱₀ d none) Set.univ
          (Scf.for lp.lb lp.ub lp.st hok ⟨⟩ body >>= fun _ => .op (.waitDma2 (sx (false, 0, c)) s1 t1 w1 x1) fun _ => .op (.waitDma2 (sx (true, 0, c)) s2 t2 w2 x2) fun _ =>
            .op (.waitDma2 (sx (false, 1, c)) s3 t3 w3 x3) fun _ => .op (.waitDma2 (sx (true, 1, c)) s4 t4 w4 x4) k) Q) := by
  unfold ready sums sending dones
  iintro ⟨#Hinv, #Hlev, ⟨Hs, Ha, Hb, Hke, HO⟩, Hq, Hac, Hl⟩ Hk
  iapply (wp_heads d (msk d c.val) (sl c.val) fullShare.right q (kvAt pc d c.val) (aSt pc d q a c.val) (lSt pc d q l c.val) lp hn o7 i7 o6 i6 o9 i9 o6' i6' hbody g7 g6 g9 g6' Q) $$ [Hs Hq Hac Hl]
  · unfold headSt
    isplitl [Hq]; · iexact Hq
    isplitl [Hs]; · iexact Hs
    isplitl [Hac]; · iexact Hac
    iexact Hl
  unfold headSt
  iintro ⟨Hq, Hs, Hac, Hl⟩
  iapply (wp_waits pc K d c Q (N_any t1) (N_any t2) (N_any t3) (N_any t4)) $$ [Hs Ha Hb HO]
  · isplitr; · iexact Hinv
    isplitr; · iexact Hlev
    isplitl [Hs]; · iexact Hs
    isplitl [Ha]; · iexact Ha
    isplitl [Hb]; · iexact Hb
    iexact HO
  iintro ⟨Hc', Hc, Hf, Hda, Hdb, HO⟩
  iapply Hk
  isplitl [Hc' Hke Hc Hf HO]
  · isplitl [Hc']; · iexact Hc'
    isplitl [Hke Hc Hf]
    · iapply (next_in pc d c)
      isplitl [Hke]; · iexact Hke
      isplitl [Hc]; · iexact Hc
      iexact Hf
    iexact HO
  isplitl [Hq Hac Hl]
  · isplitl [Hq]; · iexact Hq
    isplitl [Hac]; · iexact Hac
    iexact Hl
  isplitl [Hda]; · iexact Hda
  iexact Hdb

/-- Both. -/
theorem wp_step (c : Fin 7) (q : QBuf F) (a : ABuf F) (l : LBuf F) (Q : PUnit → sProp 𝕄) {D0 D1 : Dev nD} (e0 : D0 = nb 0 d) (e1 : D1 = nb 1 d)
    {h1 : (vh 0 (sl c.val)).view.WordExact} {h2 : (vh 0 (sl (c.val + 1))).view.WordExact}
    {h3 : DmaTarget.Typed .vmem (.dma (sx (true, 0, c))) (DmaTarget.remote (nD := nD) (τ := τ) (p := Proc.tc) (Dev.tc D0) (vh 0 (sl (c.val + 1))) (.dma (sx (false, 0, c))) rfl)}
    {h1' : (vh 1 (sl c.val)).view.WordExact} {h2' : (vh 1 (sl (c.val + 1))).view.WordExact}
    {h3' : DmaTarget.Typed .vmem (.dma (sx (true, 1, c))) (DmaTarget.remote (nD := nD) (τ := τ) (p := Proc.tc) (Dev.tc D1) (vh 1 (sl (c.val + 1))) (.dma (sx (false, 1, c))) rfl)}
    (lp : Scf.Loop 32) (hn : lp.trips = 8) {hok : lp.OK} {body : Fin lp.trips → Unit → Prog (TpuEff nD τ sig (Elt F) Λ₀ .tc) Unit}
    (o7 : Fin lp.trips → Fin 3 → ℕ) (i7) (o6 : Fin lp.trips → Fin 4 → ℕ) (i6) (o9 : Fin lp.trips → Fin 3 → ℕ) (i9) (o6' : Fin lp.trips → Fin 4 → ℕ) (i6')
    (hbody : body = headProg o7 i7 o6 i6 o9 i9 o6' i6' (msk d c.val))
    (g7 : ∀ k, o7 k = ![k.val, 0, 0]) (g6 : ∀ k, o6 k = ![(sl c.val).val, k.val, 0, 0]) (g9 : ∀ k, o9 k = ![k.val, 0, 0]) (g6' : ∀ k, o6' k = ![(sl c.val).val, k.val + 8, 0, 0])
    {s1 t1 s2 t2 s3 t3 s4 t4 : Memref sig .tc .vmem S16x512x128 .i8} {w1 : s1.view.WordExact} {x1 : t1.view.WordExact}
    {w2 : s2.view.WordExact} {x2 : t2.view.WordExact} {w3 : s3.view.WordExact} {x3 : t3.view.WordExact} {w4 : s4.view.WordExact} {x4 : t4.view.WordExact}
    {k : PUnit → Prog (TpuEff nD τ sig (Elt F) Λ₀ .tc) PUnit} :
    iprop(invs pc K ∗ levAts L lv ∗ ready pc d c.val ∗ sums pc d q a l c.val ∗ kits d c)
      ⊢ iprop(((ready pc d (c.val + 1) ∗ sums pc d q a l (c.val + 1) ∗ dones d c) -∗ wp frame (wpE (defs₀ (F := F)) 𝒱₀ d none) Set.univ (k ⟨⟩) Q) -∗ wp frame (wpE (defs₀ (F := F)) 𝒱₀ d none) Set.univ
          (.op (.enqueueDma (vh 0 (sl c.val)) (.remote (Dev.tc D0) (vh 0 (sl (c.val + 1))) (.dma (sx (false, 0, c)))) (.dma (sx (true, 0, c))) h1 h2 h3) fun _ =>
            .op (.enqueueDma (vh 1 (sl c.val)) (.remote (Dev.tc D1) (vh 1 (sl (c.val + 1))) (.dma (sx (false, 1, c)))) (.dma (sx (true, 1, c))) h1' h2' h3') fun _ =>
            (Scf.for lp.lb lp.ub lp.st hok ⟨⟩ body >>= fun _ => .op (.waitDma2 (sx (false, 0, c)) s1 t1 w1 x1) fun _ => .op (.waitDma2 (sx (true, 0, c)) s2 t2 w2 x2) fun _ =>
            .op (.waitDma2 (sx (false, 1, c)) s3 t3 w3 x3) fun _ => .op (.waitDma2 (sx (true, 1, c)) s4 t4 w4 x4) k)) Q) := by
  iintro ⟨#Hinv, #Hlev, Hr, Hs, Hki⟩ Hk
  iapply (wp_go pc K d c Q e0 e1) $$ [Hr Hki]
  · isplitr; · iexact Hinv
    isplitl [Hr]; · iexact Hr
    iexact Hki
  iintro Hse
  iapply (wp_work pc K d c q a l Q lp hn o7 i7 o6 i6 o9 i9 o6' i6' hbody g7 g6 g9 g6') $$ [Hse Hs]
  · isplitr; · iexact Hinv
    isplitr; · iexact Hlev
    isplitl [Hse]; · iexact Hse
    iexact Hs
  iexact Hk

end Cert.KernelIdealProof
-- ==== Proof.KernelIdealBody.lean ====
/-
  One device's run of the kernel body, from the whole of its buffers to the result.
-/
module

public import proofs.«01_k».proof.Proof.KernelIdealRound

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (pc : Dev nD → Piece F) (K : GSem nD τ sig → ℕ) (d : Dev nD)

/-! ## What a device starts with -/

/-- A direction's step, before the neighbour has been heard from. -/
def kit0 (b : Fin 2) (c : Fin 7) : sProp 𝕄 :=
  iprop(dutyTok ER (sCell b c d) 0 0 ∗ dutyTok ER (rCell b c (nb b d)) 0 0 ∗ reached ER (sCell b c d) 0
    ∗ atPos ER (sCell b c d) 0 ∅ 0 ∗ atPos ER (rCell b c d) 0 ∅ 0 ∗ cred (tallyAt (rCell b c d) () N))
def kits0 (c : Fin 7) : sProp 𝕄 := iprop(kit0 d 0 c ∗ kit0 d 1 c)

theorem kit_of (b : Fin 2) (c : Fin 7) : iprop(reach b (nb b d) ∗ kit0 d b c) ⊢ (kit d b c : sProp 𝕄) := by
  unfold kit0 kit
  iintro ⟨Hr, H1, H2, H3, H4⟩
  isplitl [H1]; · iexact H1
  isplitl [H2]; · iexact H2
  isplitl [H3]; · iexact H3
  isplitl [Hr]; · iapply (show reach b (nb b d) ⊢ (reached ER (rCell b c (nb b d)) 0 : sProp 𝕄) from bigSep_elim (Finset.mem_univ c)); iexact Hr
  iexact H4
theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl
theorem kits_of : iprop(reach 0 (nb 0 d) ∗ reach 1 (nb 1 d) ∗ bigSep Finset.univ (kits0 d)) ⊢ (bigSep Finset.univ (kits d) : sProp 𝕄) := by
  have h (c : Fin 7) : iprop(reach 0 (nb 0 d) ∗ reach 1 (nb 1 d) ∗ kits0 d c) ⊢ (kits d c : sProp 𝕄) := by
    unfold kits0 kits
    iintro ⟨#H0, #H1, Ha, Hb⟩
    isplitl [Ha]
    · iapply (kit_of d 0 c); isplitr; · iexact H0
      iexact Ha
    · iapply (kit_of d 1 c); isplitr; · iexact H1
      iexact Hb
  rw [seven, seven]
  iintro ⟨#H0, #H1, K0, K1, K2, K3, K4, K5, K6⟩
  isplitl [K0]; · iapply (h 0); isplitr; · iexact H0
                  isplitr; · iexact H1
                  iexact K0
  isplitl [K1]; · iapply (h 1); isplitr; · iexact H0
                  isplitr; · iexact H1
                  iexact K1
  isplitl [K2]; · iapply (h 2); isplitr; · iexact H0
                  isplitr; · iexact H1
                  iexact K2
  isplitl [K3]; · iapply (h 3); isplitr; · iexact H0
                  isplitr; · iexact H1
                  iexact K3
  isplitl [K4]; · iapply (h 4); isplitr; · iexact H0
                  isplitr; · iexact H1
                  iexact K4
  isplitl [K5]; · iapply (h 5); isplitr; · iexact H0
                  isplitr; · iexact H1
                  iexact K5
  iapply (h 6); isplitr; · iexact H0
  isplitr; · iexact H1
  iexact K6

/-! ## The exchange buffer at both ends -/

theorem first_load {r : Rect S3x16x1024x128} (h : ∀ x ∈ r.toLoadRect.set, (x 0).val = 0) : kvM.view.setOn r.toLoadRect.set ⊆ sset 0 := by
  intro i hi
  unfold View.setOn at hi
  obtain ⟨x, hx, rfl⟩ := Finset.mem_map.1 hi
  unfold sset
  rw [Finset.mem_filter]
  exact ⟨Finset.mem_univ _, h x hx⟩
theorem up6_first : ∀ x ∈ up6.toLoadRect.set, (x 0).val = 0 := fun x hx => by
  have e : (x 0).val < 0 + 1 := ((Rect.mem_set_unit.1 hx) 0).2
  omega
theorem dn6_first : ∀ x ∈ dn6.toLoadRect.set, (x 0).val = 0 := fun x hx => by
  have e : (x 0).val < 0 + 1 := ((Rect.mem_set_unit.1 hx) 0).2
  omega

theorem halves_slot (s : Fin 3) : iprop((∃ f, hPts 0 s fullShare d f) ∗ ∃ f, hPts 1 s fullShare d f) ⊢ (iprop(∃ f : Kv F, sPts s fullShare d f) : sProp 𝕄) := by
  iintro ⟨⟨%f, H0⟩, ⟨%g, H1⟩⟩
  have e0 : (hPts 0 s fullShare d f : sProp 𝕄) = hPts 0 s fullShare d (fun i => if (i 2).val < 512 then f i else g i) := by
    unfold hPts
    refine pointsTo_congr fun i hi => ?_
    unfold hset at hi; rw [Finset.mem_filter] at hi
    have h := hi.2.2.2
    exact (if_pos (by simpa using h)).symm
  have e1 : (hPts 1 s fullShare d g : sProp 𝕄) = hPts 1 s fullShare d (fun i => if (i 2).val < 512 then f i else g i) := by
    unfold hPts
    refine pointsTo_congr fun i hi => ?_
    unfold hset at hi; rw [Finset.mem_filter] at hi
    have h := hi.2.2.1
    exact (if_neg (by simp at h; omega)).symm
  ihave H0 := (Entails.of_eq e0) $$ H0
  ihave H1 := (Entails.of_eq e1) $$ H1
  iexists (fun i => if (i 2).val < 512 then f i else g i)
  iapply (slot_split s fullShare d _).2
  isplitl [H0]; · iexact H0
  iexact H1
theorem slot_halves (s : Fin 3) (f : Kv F) : (sPts s fullShare d f : sProp 𝕄) ⊢ iprop((∃ f, hPts 0 s fullShare d f) ∗ ∃ f, hPts 1 s fullShare d f) := by
  iintro H
  ihave H := (slot_split s fullShare d f).1 $$ H
  icases H with ⟨H0, H1⟩
  isplitl [H0]
  · iexists _; iexact H0
  · iexists _; iexact H1

theorem buffer_back (f : Kv F) : iprop(sPts (sl 7) fullShare d f ∗ next d 7) ⊢ (iprop(∃ f : Kv F, kvLoc d ↦{fullShare} f) : sProp 𝕄) := by
  unfold next old
  rw [if_neg (by decide), if_neg (by decide)]
  iintro ⟨Hc, H0, H2⟩
  ihave H0 := (halves_slot d (sl (7 + 2))) $$ H0
  ihave H2 := (halves_slot d (sl (6 + 2))) $$ H2
  icases H0 with ⟨%f0, H0⟩
  icases H2 with ⟨%f2, H2⟩
  iapply (slots_join d f0 f f2)
  isplitl [H0]; · iexact H0
  isplitl [Hc]; · iexact Hc
  iexact H2

theorem cur_zero (kb : B2 F) (vb : B3 F) (hpc : pc d = pieceOf kb vb) (f : Kv F) (h : ∀ i ∈ sset 0, f i = spread (pieceOf kb vb) i) :
    (sPts 0 fullShare d f : sProp 𝕄) ⊢ cur pc d 0 := by
  unfold cur
  rw [own_zero, own_zero, hpc]
  have e : (sPts 0 fullShare d f : sProp 𝕄) = sPts 0 fullShare d (spread (pieceOf kb vb)) := by unfold sPts; exact pointsTo_congr h
  rw [e]
  exact (slot_split 0 fullShare d _).1
theorem cur_slot (c : ℕ) : (cur pc d c : sProp 𝕄) ⊢ sPts (sl c) fullShare d (kvAt pc d c) := by
  unfold cur; exact (slot_join (sl c) fullShare d _ _).2

/-! ## The body -/

/-- The operands' buffers. -/
def stage (x : B0 F) (w : B1 F) (kb : B2 F) (vb : B3 F) (wo : B4 F) : sProp 𝕄 := iprop(xPts d x ∗ wPts d w ∗ kPts d kb ∗ vPts d vb ∗ woPts d wo)
/-- The protocol's share of what a device starts with. -/
def talkIn : sProp 𝕄 := iprop(barIn d ∗ reach 0 d ∗ reach 1 d ∗ bigSep Finset.univ (kits0 d))
/-- And ends with. -/
def talkOut : sProp 𝕄 := iprop(semVal (barCell d) 0 ∗ bigSep Finset.univ (dones d))

set_option maxHeartbeats 0 in
theorem body_run (x : B0 F) (w : B1 F) (kb : B2 F) (vb : B3 F) (wo : B4 F) (o : B5 F) (kv : Kv F) (q : QBuf F) (a : ABuf F) (l : LBuf F)
    (hpc : pc d = pieceOf kb vb) (Q : PUnit → sProp 𝕄) :
    iprop(invs pc K ∗ levAts L lv ∗ talkIn d ∗ owing d (owe0 d) ∗ stage d x w kb vb wo ∗ oPts d o ∗ (kvLoc d ↦{fullShare} kv) ∗ qPts d q ∗ aPts d a ∗ lPts d l)
      ⊢ iprop(((talkOut d ∗ owing d 0 ∗ stage d x w kb vb wo ∗ oPts d (oOut pc d x w wo q a l o)
            ∗ (∃ f, kvLoc d ↦{fullShare} f) ∗ (∃ q, qPts d q) ∗ (∃ a, aPts d a) ∗ ∃ l, lPts d l) -∗ Q ⟨⟩)
        -∗ wp frame (wpE (defs₀ (F := F)) 𝒱₀ d none) Set.univ
   (cc0_body BM0 (Memref.isWhole_whole _) BM1 (Memref.isWhole_whole _) BM2 (Memref.isWhole_whole _) BM3 (Memref.isWhole_whole _) BM4 (Memref.isWhole_whole _) BM5 (Memref.isWhole_whole _)
     kvM (Memref.isWhole_whole _) qM (Memref.isWhole_whole _) aM (Memref.isWhole_whole _) lM (Memref.isWhole_whole _) cc0_scratch4 cc0_scratch5 cc0_scratch6 cc0_scratch7) Q) := by
  simp only [cc0_body_eq_skeleton]; unfold cc0_body_skel
  simp only [k0_part36_eq_skeleton]; unfold k0_part36_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel
  simp only [semSignalWord, semWaitWord, Prog.lift, Prog.bind_op, Prog.bind_ret, Prog.pure_eq_ret, Prog.bind_assoc, wp_deviceId]
  simp only [slice_4_0, slice_4_1, slice_4_2, slice_4_3, slice_4_4, slice_4_5, slice_4_6, slice_5_0, slice_5_1, slice_5_2, slice_5_3, slice_5_4, slice_5_5, slice_5_6, slice_6_0, slice_6_1, slice_6_2, slice_6_3, slice_6_4, slice_6_5, slice_6_6, slice_7_0, slice_7_1, slice_7_2, slice_7_3, slice_7_4, slice_7_5, slice_7_6, dev_1, dev_2, dev_3, dev_4, dev_5, dev_6, dev_7, dev_8, dev_9, dev_10, dev_11, dev_12, dev_13, dev_14, dev_15, dev_16]
  unfold stage talkIn talkOut xPts wPts kPts vPts woPts oPts qPts aPts lPts
  iintro ⟨#Hinv, #Hlev, ⟨Hbar, Hr0, Hr1, Hkits⟩, HO, ⟨Hx, Hw, Hkb, Hvb, Hwo⟩, Ho, Hkv, Hq, Ha, Hl⟩ Hk
  ihave Hkv := (Entails.of_eq (slots_split d kv)) $$ Hkv
  icases Hkv with ⟨Hs0, Hs1, Hs2⟩
  ihave Hs1 := (slot_halves d 1 kv) $$ Hs1
  icases Hs1 with ⟨H01, H11⟩
  ihave Hs2 := (slot_halves d 2 kv) $$ Hs2
  icases Hs2 with ⟨H02, H12⟩
  iapply (wp_opening pc K d Q) $$ [Hbar Hr0 Hr1 H01 H02 H11 H12 HO]
  · isplitr; · iexact Hinv
    isplitr; · iexact Hlev
    isplitl [Hbar]; · iexact Hbar
    isplitl [Hr0]; · iexact Hr0
    isplitl [Hr1]; · iexact Hr1
    unfold free
    isplitl [H01 H02 H11 H12]
    · isplitl [H01]; · iexact H01
      isplitl [H02]; · iexact H02
      isplitl [H11]; · iexact H11
      iexact H12
    iexact HO
  iintro ⟨Hbv, Hn, Hr0, Hr1, HO⟩
  ihave Hkits := (kits_of d) $$ [Hr0 Hr1 Hkits]
  · isplitl [Hr0]; · iexact Hr0
    isplitl [Hr1]; · iexact Hr1
    iexact Hkits
  ihave Hkits := (Entails.of_eq (seven (kits d))) $$ Hkits
  icases Hkits with ⟨Hk0, Hk1, Hk2, Hk3, Hk4, Hk5, Hk6⟩
  -- the own piece
  unfold sPts
  iapply (wp_load 𝒱₀ (d : Thread nD τ) none Set.univ (m := BM2) (r := all3.toLoadRect) (S := Finset.univ) (Finset.subset_univ _)) $$ Hkb
  iintro Hkb
  iapply (wp_load 𝒱₀ (d : Thread nD τ) none Set.univ (m := kvM) (r := up6.toLoadRect) (S := sset 0) (first_load up6_first)) $$ Hs0
  iintro Hs0
  iapply (wp_store 𝒱₀ (d : Thread nD τ) none Set.univ (m := kvM) (r := up6) (f := kv) (by rw [View.setOn_univ]; exact up6_sub)) $$ Hs0
  iintro Hs0
  iapply (wp_load 𝒱₀ (d : Thread nD τ) none Set.univ (m := BM3) (r := all3.toLoadRect) (S := Finset.univ) (Finset.subset_univ _)) $$ Hvb
  iintro Hvb
  iapply (wp_load 𝒱₀ (d : Thread nD τ) none Set.univ (m := kvM) (r := dn6.toLoadRect) (S := sset 0) (first_load dn6_first)) $$ Hs0
  iintro Hs0
  iapply (wp_store 𝒱₀ (d : Thread nD τ) none Set.univ (m := kvM) (r := dn6) (f := (kvM.access up6).write (Elt F) kv (k0_pay26 (rd2 kb)) Finset.univ) (by rw [View.setOn_univ]; exact dn6_sub)) $$ Hs0
  iintro Hs0
  ihave Hc := (cur_zero pc d kb vb hpc _ (opened kv kb vb)) $$ [Hs0]
  · unfold sPts; iexact Hs0
  -- step 0's sends, the queries, the cleared sums, step 0
  iapply (wp_go pc K d 0 Q (dev_3 d) (dev_4 d)) $$ [Hc Hn HO Hk0]
  · isplitr; · iexact Hinv
    unfold ready
    isplitl [Hc Hn HO]
    · isplitl [Hc]; · iexact Hc
      isplitl [Hn]; · iexact Hn
      iexact HO
    iexact Hk0
  iintro Hse
  iapply (wp_queries d x w q k0_t1_loop (by decide) k0_off1 k0_off1_inb k0_off1_packedbf16 (by funext k u; rfl) k0_off1_eq Q) $$ [Hx Hw Hq]
  · unfold xPts wPts qPts
    isplitl [Hx]; · iexact Hx
    isplitl [Hw]; · iexact Hw
    iexact Hq
  iintro ⟨Hx, Hw, Hq⟩
  iapply (wp_load 𝒱₀ (d : Thread nD τ) none Set.univ (m := aM) (r := all3.toLoadRect) (S := Finset.univ) (Finset.subset_univ _)) $$ Ha
  iintro Ha
  iapply (wp_store 𝒱₀ (d : Thread nD τ) none Set.univ (m := aM) (r := all3) (f := a) (Finset.subset_univ _)) $$ Ha
  iintro Ha
  iapply (wp_load 𝒱₀ (d : Thread nD τ) none Set.univ (m := lM) (r := all9.toLoadRect) (S := Finset.univ) (Finset.subset_univ _)) $$ Hl
  iintro Hl
  iapply (wp_store 𝒱₀ (d : Thread nD τ) none Set.univ (m := lM) (r := all9) (f := l) (Finset.subset_univ _)) $$ Hl
  iintro Hl
  generalize hq' : qAfter x w q 8 = q'
  iapply (wp_work pc K d 0 q' a l Q k0_t2_loop (by decide) k0_off2 k0_off2_inb k0_off3 k0_off3_inb k0_off4 k0_off4_inb k0_off5 k0_off5_inb
      (by funext k u; unfold k0_t2_body; rw [k0_part1_eq_skeleton]; rfl) k0_off2_eq k0_off3_eq k0_off4_eq k0_off5_eq) $$ [Hse Hq Ha Hl]
  · isplitr; · iexact Hinv
    isplitr; · iexact Hlev
    isplitl [Hse]; · iexact Hse
    unfold sums
    isplitl [Hq]; · iexact Hq
    isplitl [Ha]; · unfold aPts aSt aZero; iexact Ha
    unfold lPts lSt lZero; iexact Hl
  iintro ⟨Hr, Hs, Hd0⟩
  -- step 1
  iapply (wp_step pc K d 1 q' a l Q (dev_5 d) (dev_6 d) k0_t3_loop (by decide) k0_off6 k0_off6_inb k0_off7 k0_off7_inb k0_off8 k0_off8_inb k0_off9 k0_off9_inb
      (by funext k u; unfold k0_t3_body; rw [k0_part2_eq_skeleton]; rfl) k0_off6_eq k0_off7_eq k0_off8_eq k0_off9_eq) $$ [Hr Hs Hk1]
  · isplitr; · iexact Hinv
    isplitr; · iexact Hlev
    isplitl [Hr]; · iexact Hr
    isplitl [Hs]; · iexact Hs
    iexact Hk1
  iintro ⟨Hr, Hs, Hd1⟩
  -- step 2
  iapply (wp_step pc K d 2 q' a l Q (dev_7 d) (dev_8 d) k0_t4_loop (by decide) k0_off10 k0_off10_inb k0_off11 k0_off11_inb k0_off12 k0_off12_inb k0_off13 k0_off13_inb
      (by funext k u; unfold k0_t4_body; rw [k0_part3_eq_skeleton]; rfl) k0_off10_eq k0_off11_eq k0_off12_eq k0_off13_eq) $$ [Hr Hs Hk2]
  · isplitr; · iexact Hinv
    isplitr; · iexact Hlev
    isplitl [Hr]; · iexact Hr
    isplitl [Hs]; · iexact Hs
    iexact Hk2
  iintro ⟨Hr, Hs, Hd2⟩
  -- step 3
  iapply (wp_step pc K d 3 q' a l Q (dev_9 d) (dev_10 d) k0_t5_loop (by decide) k0_off14 k0_off14_inb k0_off15 k0_off15_inb k0_off16 k0_off16_inb k0_off17 k0_off17_inb
      (by funext k u; unfold k0_t5_body; rw [k0_part4_eq_skeleton]; rfl) k0_off14_eq k0_off15_eq k0_off16_eq k0_off17_eq) $$ [Hr Hs Hk3]
  · isplitr; · iexact Hinv
    isplitr; · iexact Hlev
    isplitl [Hr]; · iexact Hr
    isplitl [Hs]; · iexact Hs
    iexact Hk3
  iintro ⟨Hr, Hs, Hd3⟩
  -- step 4
  iapply (wp_step pc K d 4 q' a l Q (dev_11 d) (dev_12 d) k0_t6_loop (by decide) k0_off18 k0_off18_inb k0_off19 k0_off19_inb k0_off20 k0_off20_inb k0_off21 k0_off21_inb
      (by funext k u; unfold k0_t6_body; rw [k0_part5_eq_skeleton]; rfl) k0_off18_eq k0_off19_eq k0_off20_eq k0_off21_eq) $$ [Hr Hs Hk4]
  · isplitr; · iexact Hinv
    isplitr; · iexact Hlev
    isplitl [Hr]; · iexact Hr
    isplitl [Hs]; · iexact Hs
    iexact Hk4
  iintro ⟨Hr, Hs, Hd4⟩
  -- step 5
  iapply (wp_step pc K d 5 q' a l Q (dev_13 d) (dev_14 d) k0_t7_loop (by decide) k0_off22 k0_off22_inb k0_off23 k0_off23_inb k0_off24 k0_off24_inb k0_off25 k0_off25_inb
      (by funext k u; unfold k0_t7_body; rw [k0_part6_eq_skeleton]; rfl) k0_off22_eq k0_off23_eq k0_off24_eq k0_off25_eq) $$ [Hr Hs Hk5]
  · isplitr; · iexact Hinv
    isplitr; · iexact Hlev
    isplitl [Hr]; · iexact Hr
    isplitl [Hs]; · iexact Hs
    iexact Hk5
  iintro ⟨Hr, Hs, Hd5⟩
  -- step 6
  iapply (wp_step pc K d 6 q' a l Q (dev_15 d) (dev_16 d) k0_t8_loop (by decide) k0_off26 k0_off26_inb k0_off27 k0_off27_inb k0_off28 k0_off28_inb k0_off29 k0_off29_inb
      (by funext k u; unfold k0_t8_body; rw [k0_part7_eq_skeleton]; rfl) k0_off26_eq k0_off27_eq k0_off28_eq k0_off29_eq) $$ [Hr Hs Hk6]
  · isplitr; · iexact Hinv
    isplitr; · iexact Hlev
    isplitl [Hr]; · iexact Hr
    isplitl [Hs]; · iexact Hs
    iexact Hk6
  iintro ⟨Hr, Hs, Hd6⟩
  -- step 7
  unfold ready sums
  icases Hr with ⟨Hc, Hn, HO⟩
  icases Hs with ⟨Hq, Ha, Hl⟩
  ihave Hc := (cur_slot pc d 7) $$ [Hc]
  · iexact Hc
  iapply (wp_heads d (msk d 7) (sl 7) fullShare q' (kvAt pc d 7) (aSt pc d q' a 7) (lSt pc d q' l 7) k0_t9_loop (by decide) k0_off30 k0_off30_inb k0_off31 k0_off31_inb k0_off32 k0_off32_inb k0_off33 k0_off33_inb
      (by funext k u; unfold k0_t9_body; rw [k0_part8_eq_skeleton]; rfl) k0_off30_eq k0_off31_eq k0_off32_eq k0_off33_eq Q) $$ [Hc Hq Ha Hl]
  · unfold headSt
    isplitl [Hq]; · iexact Hq
    isplitl [Hc]; · iexact Hc
    isplitl [Ha]; · iexact Ha
    iexact Hl
  unfold headSt
  iintro ⟨Hq, Hc, Ha, Hl⟩
  iapply (wp_load 𝒱₀ (d : Thread nD τ) none Set.univ (m := BM5) (r := all2.toLoadRect) (S := Finset.univ) (Finset.subset_univ _)) $$ Ho
  iintro Ho
  iapply (wp_store 𝒱₀ (d : Thread nD τ) none Set.univ (m := BM5) (r := all2) (f := o) (Finset.subset_univ _)) $$ Ho
  iintro Ho
  iapply (wp_outputs d (aSt pc d q' a 8) (lSt pc d q' l 8) wo ((BM5.access all2).write (Elt F) o (k0_pay61 (F := F)) Finset.univ) k0_t10_loop (by decide)
      k0_off34 k0_off34_inb k0_off35 k0_off35_inb k0_off36 k0_off36_inb (by funext k u; rfl) k0_off34_eq k0_off35_eq k0_off36_eq Q) $$ [Ha Hl Hwo Ho]
  · unfold woPts oPts
    isplitl [Ha]; · iexact Ha
    isplitl [Hl]; · iexact Hl
    isplitl [Hwo]; · iexact Hwo
    iexact Ho
  unfold aPts lPts woPts oPts
  iintro ⟨Ha, Hl, Hwo, Ho⟩
  rw [wp_ret]
  imodintro
  iapply Hk
  isplitl [Hbv Hd0 Hd1 Hd2 Hd3 Hd4 Hd5 Hd6]
  · isplitl [Hbv]; · iexact Hbv
    iapply (Entails.of_eq (seven (dones d)).symm)
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    iexact Hd6
  isplitl [HO]
  · iapply (Entails.of_eq (show (owing d (owe d 7) : sProp 𝕄) = owing d 0 by rw [owe_end])); iexact HO
  unfold xPts wPts
  isplitl [Hx Hw Hkb Hvb Hwo]
  · isplitl [Hx]; · iexact Hx
    isplitl [Hw]; · iexact Hw
    isplitl [Hkb]; · iexact Hkb
    isplitl [Hvb]; · iexact Hvb
    iexact Hwo
  isplitl [Ho]
  · unfold oOut; rw [hq']; iexact Ho
  isplitl [Hc Hn]
  · iapply (buffer_back d (kvAt pc d 7))
    isplitl [Hc]; · iexact Hc
    iexact Hn
  unfold qPts
  isplitl [Hq]; · iexists _; iexact Hq
  isplitl [Ha]; · iexists _; iexact Ha
  iexists _; iexact Hl

end Cert.KernelIdealProof
-- ==== Proof.KernelIdealData.lean ====
/-
  The kernel as a region of @main: its buffers at entry and at exit, and its body's obligation from the run of the body.
-/
module

public import proofs.«01_k».proof.Proof.KernelIdealRows
public import proofs.«01_k».proof.Proof.KernelIdealBody
public import proofs.«01_k».proof.Proof.Gen.KernelIdeal.Frame
public import Idealize.ShloMosaic.Lib.Pipeline.RegionTalk

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat BodyObligation)

local notation "𝕄" => MT nD τ sig Unit (Elt F) ℕ UU ℕ

variable (m : (ℓ : Loc nD τ sig) → Buf (Elt F) ℓ) (ρ : Dev nD → PrngReg)

/-! ## Contents -/

def inX (c : Dev nD) : B0 F := iblk m c 0 t0_0
def inW (c : Dev nD) : B1 F := iblk m c 1 t0_0
def inK (c : Dev nD) : B2 F := iblk m c 2 t0_0
def inV (c : Dev nD) : B3 F := iblk m c 3 t0_0
def inO (c : Dev nD) : B4 F := iblk m c 4 t0_0
/-- Every device's piece. -/
def pcs (c : Dev nD) : Piece F := pieceOf (inK m c) (inV m c)
/-- The result of a device. -/
def res (c : Dev nD) : B5 F := oFin (pcs m) c (inX m c) (inW m c) (inO m c)

/-! ## The region's invariant -/

/-- What of the exchange enters, and what it leaves. -/
def Xk (c : Dev nD) : sProp 𝕄 := iprop((∃ K, invs (pcs m) K) ∗ levAts L lv ∗ talkIn c)
/-- The four buffers of its own, any contents. -/
def scr (c : Dev nD) : sProp 𝕄 := iprop((∃ f, kvLoc c ↦{fullShare} f) ∗ (∃ q, qPts c q) ∗ (∃ a, aPts c a) ∗ ∃ l, lPts c l)

def Φ₀ (c : Dev nD) : sProp 𝕄 := iprop(Xk m c ∗ scr c ∗ ∃ r, prngReg c r)
def Φ₁ (c : Dev nD) : sProp 𝕄 := iprop(talkOut c ∗ scr c ∗ ∃ r, prngReg c r)

def dat (c : Dev nD) : Dat τ (Elt F) Unit ℕ UU ℕ cfg0 c where
  A w := V m c (Pipeline.arrRef spec0 w)
  after w t := match w with
    | ⟨0, _⟩ => inX m c
    | ⟨1, _⟩ => inW m c
    | ⟨2, _⟩ => inK m c
    | ⟨3, _⟩ => inV m c
    | ⟨4, _⟩ => inO m c
    | ⟨5, _⟩ => res m c
  Φ t := match t with
    | ⟨0, _⟩ => Φ₀ m c
    | ⟨_ + 1, _⟩ => Φ₁ c
  q _ := fullShare
  owed t := match t with
    | ⟨0, _⟩ => owe0 c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem share_eq (c : Dev nD) (w : Fin cfg0.W) : (dat m c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_eq (c : Dev nD) (b : Ref sig .tc) (X : b.ty.Contents (Elt F)) : stg c b X ⊢ (((c : Thread nD τ).loc b) ↦{fullShare} X : sProp 𝕄) := by
  unfold stg
  iintro ⟨%f, %h, H⟩
  subst h
  iexact H
theorem stg_intro (c : Dev nD) (b : Ref sig .tc) (X : b.ty.Contents (Elt F)) : (((c : Thread nD τ).loc b) ↦{fullShare} X : sProp 𝕄) ⊢ stg c b X := by
  unfold stg
  iintro H
  iexists X
  isplitr; · ipureintro; rfl
  iexact H

theorem before_0 (c : Dev nD) (e) : (dat m c).before (0 : Fin 6) t0_0 e = inX m c := by unfold Dat.before; rw [if_pos (by rfl)]; rfl
theorem before_1 (c : Dev nD) (e) : (dat m c).before (1 : Fin 6) t0_0 e = inW m c := by unfold Dat.before; rw [if_pos (by rfl)]; rfl
theorem before_2 (c : Dev nD) (e) : (dat m c).before (2 : Fin 6) t0_0 e = inK m c := by unfold Dat.before; rw [if_pos (by rfl)]; rfl
theorem before_3 (c : Dev nD) (e) : (dat m c).before (3 : Fin 6) t0_0 e = inV m c := by unfold Dat.before; rw [if_pos (by rfl)]; rfl
theorem before_4 (c : Dev nD) (e) : (dat m c).before (4 : Fin 6) t0_0 e = inO m c := by unfold Dat.before; rw [if_pos (by rfl)]; rfl

theorem owesAt_intro {c : Dev nD} (t : Fin (cfg0.N + 1))
    (O : CellTallies nD τ sig Unit) (h0 : (dat m c).owed t = O) :
    (owing c O : sProp 𝕄) ⊢ ((dat m c).owesAt () t : sProp 𝕄) := by
  unfold Dat.owesAt Pipeline.owesWithin Dat.bound; rw [h0]
  iintro ⟨%W, HO⟩; iexists W; isplitr; · ipureintro; exact fun _ _ => Or.inl trivial
  iexact HO
theorem owesAt_elim {c : Dev nD} (t : Fin (cfg0.N + 1))
    (O : CellTallies nD τ sig Unit) (h0 : (dat m c).owed t = O) :
    ((dat m c).owesAt () t : sProp 𝕄) ⊢ owing c O := by
  unfold Dat.owesAt Pipeline.owesWithin; rw [h0]
  iintro ⟨%W, -, HO⟩; iexists W; iexact HO

def bodyPre (c : Dev nD) : sProp 𝕄 :=
  iprop(Φ₀ m c ∗ (dat m c).owesAt () t0_0.castSucc
    ∗ (∃ e, stg c cc0_stg0_0 ((dat m c).before (0 : Fin 6) t0_0 e)) ∗ (∃ e, stg c cc0_stg1_0 ((dat m c).before (1 : Fin 6) t0_0 e))
    ∗ (∃ e, stg c cc0_stg2_0 ((dat m c).before (2 : Fin 6) t0_0 e)) ∗ (∃ e, stg c cc0_stg3_0 ((dat m c).before (3 : Fin 6) t0_0 e))
    ∗ (∃ e, stg c cc0_stg4_0 ((dat m c).before (4 : Fin 6) t0_0 e)) ∗ (∃ e, stg c cc0_stg5_0 ((dat m c).before (5 : Fin 6) t0_0 e)))
def bodyPost (c : Dev nD) : sProp 𝕄 :=
  iprop(Φ₁ c ∗ (dat m c).owesAt () t0_0.succ
    ∗ stg c cc0_stg0_0 (inX m c) ∗ stg c cc0_stg1_0 (inW m c) ∗ stg c cc0_stg2_0 (inK m c) ∗ stg c cc0_stg3_0 (inV m c)
    ∗ stg c cc0_stg4_0 (inO m c) ∗ stg c cc0_stg5_0 (res m c))

set_option maxRecDepth 4000 in
set_option maxHeartbeats 1600000 in
theorem body (c : Dev nD) : BodyObligation (dat (F := F) m c) (defs₀ (F := F)) 𝒱₀ () Set.univ := fun t => by
  obtain rfl := fin_N0 t
  rw [bigSep_W0, bigSep_W0]
  simp only [owns_whole_eq]
  show bodyPre m c ⊢ wp frame (wpE (defs₀ (F := F)) 𝒱₀ c none) Set.univ
    (cc0_body BM0 (Memref.isWhole_whole _) BM1 (Memref.isWhole_whole _) BM2 (Memref.isWhole_whole _) BM3 (Memref.isWhole_whole _) BM4 (Memref.isWhole_whole _) BM5 (Memref.isWhole_whole _)
     kvM (Memref.isWhole_whole _) qM (Memref.isWhole_whole _) aM (Memref.isWhole_whole _) lM (Memref.isWhole_whole _) cc0_scratch4 cc0_scratch5 cc0_scratch6 cc0_scratch7) (fun _ => bodyPost m c)
  unfold bodyPre Φ₀ Xk scr
  iintro ⟨⟨⟨⟨%K, Hi⟩, Hl, Ht⟩, ⟨⟨%kv, Hkv⟩, ⟨%q, Hq⟩, ⟨%a, Ha⟩, %l, Hls⟩, Hp⟩, Ho, ⟨%e0, H0⟩, ⟨%e1, H1⟩, ⟨%e2, H2⟩, ⟨%e3, H3⟩, ⟨%e4, H4⟩, ⟨%e5, H5⟩⟩
  rw [before_0, before_1, before_2, before_3, before_4]
  ihave Ho' := (owesAt_elim m t0_0.castSucc (owe0 c) rfl) $$ Ho
  ihave G0 := (stg_eq c cc0_stg0_0 _) $$ H0
  ihave G1 := (stg_eq c cc0_stg1_0 _) $$ H1
  ihave G2 := (stg_eq c cc0_stg2_0 _) $$ H2
  ihave G3 := (stg_eq c cc0_stg3_0 _) $$ H3
  ihave G4 := (stg_eq c cc0_stg4_0 _) $$ H4
  ihave G5 := (stg_eq c cc0_stg5_0 _) $$ H5
  iapply (body_run (pcs m) K c (inX m c) (inW m c) (inK m c) (inV m c) (inO m c) ((dat m c).before (5 : Fin 6) t0_0 e5) kv q a l rfl (fun _ => bodyPost m c)) $$ [Hi Hl Ht Ho' G0 G1 G2 G3 G4 G5 Hkv Hq Ha Hls]
  · isplitl [Hi]; · iexact Hi
    isplitl [Hl]; · iexact Hl
    isplitl [Ht]; · iexact Ht
    isplitl [Ho']; · iexact Ho'
    isplitl [G0 G1 G2 G3 G4]
    · unfold stage xPts wPts kPts vPts woPts
      isplitl [G0]; · iexact G0
      isplitl [G1]; · iexact G1
      isplitl [G2]; · iexact G2
      isplitl [G3]; · iexact G3
      iexact G4
    isplitl [G5]; · unfold oPts; iexact G5
    isplitl [Hkv]; · iexact Hkv
    isplitl [Hq]; · iexact Hq
    isplitl [Ha]; · iexact Ha
    iexact Hls
  rw [oOut_eq]
  unfold bodyPost Φ₁ scr stage xPts wPts kPts vPts woPts oPts
  iintro ⟨Ht, Ho, ⟨G0, G1, G2, G3, G4⟩, G5, Hkv, Hq, Ha, Hls⟩
  isplitl [Ht Hkv Hq Ha Hls Hp]
  · isplitl [Ht]; · iexact Ht
    isplitl [Hkv Hq Ha Hls]
    · isplitl [Hkv]; · iexact Hkv
      isplitl [Hq]; · iexact Hq
      isplitl [Ha]; · iexact Ha
      iexact Hls
    iexact Hp
  isplitl [Ho]; · iapply (owesAt_intro m t0_0.succ 0 rfl); iexact Ho
  isplitl [G0]; · iapply (stg_intro c cc0_stg0_0 _); iexact G0
  isplitl [G1]; · iapply (stg_intro c cc0_stg1_0 _); iexact G1
  isplitl [G2]; · iapply (stg_intro c cc0_stg2_0 _); iexact G2
  isplitl [G3]; · iapply (stg_intro c cc0_stg3_0 _); iexact G3
  isplitl [G4]; · iapply (stg_intro c cc0_stg4_0 _); iexact G4
  iapply (stg_intro c cc0_stg5_0 _); unfold res; iexact G5

/-! ## The buffers around the region -/

/-- After the region: the result's array holds the result. -/
def V₂ (c : Dev nD) : Valuation τ sig (Elt F) := Function.update (V0 m c) (Proc.devRef .tc main_v14) (res m c)
/-- At the end. -/
def V₃ (c : Dev nD) : Valuation τ sig (Elt F) := StableHlo.after hostOps1 (V₂ m c)

theorem blk5 (i : S1024x1024.Idx) : ((cfg0.win (5 : Fin 6)).blk t0_0).view.emb i = i := by
  funext a
  apply Fin.ext
  fin_cases a
  · show 0 * 1024 + 1 * (i 0).val = (i 0).val; omega
  · show 0 * 1024 + 1 * (i 1).val = (i 1).val; omega

theorem arr_end (c : Dev nD) (w : Fin 6) : (dat m c).arrAt w cfg0.N = V₂ m c (Proc.devRef .tc (Pipeline.arrRef spec0 w)) := by
  have hin (w : Fin 6) (h : (cfg0.win w).isOut = false) (hn : Pipeline.arrRef spec0 w ≠ main_v14) :
      (dat m c).arrAt w cfg0.N = V₂ m c (Proc.devRef .tc (Pipeline.arrRef spec0 w)) := by
    rw [(dat m c).arrAt_in w h]
    unfold V₂
    rw [Function.update_of_ne (StableHlo.devRef_ne_of_ne hn)]
    rfl
  fin_cases w
  · exact hin 0 rfl (by decide)
  · exact hin 1 rfl (by decide)
  · exact hin 2 rfl (by decide)
  · exact hin 3 rfl (by decide)
  · exact hin 4 rfl (by decide)
  · show (dat m c).arrAt (5 : Fin 6) cfg0.N = V₂ m c (Proc.devRef .tc main_v14)
    unfold V₂
    rw [Function.update_self, show cfg0.N = (t0_0 : Fin cfg0.N).val + 1 from N_0, (dat m c).arrAt_succ (5 : Fin 6) t0_0]
    rw [show (cfg0.win (5 : Fin 6)).flush t0_0 = true from rfl, if_pos rfl]
    funext i
    conv_lhs => rw [← blk5 i]
    refine (View.write_emb_of_mem _ _ (Finset.mem_univ _)).trans ?_
    rfl

end Cert.KernelIdealProof
-- ==== Proof.KernelIdealRegion.lean ====
/-
  The kernel as a region of @main: what the launch leaves with every device for the exchange, how it enters the region, and how it leaves it.
-/
module

public import proofs.«01_k».proof.Proof.KernelIdealData

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat BodyObligation)

local notation "𝕄" => MT nD τ sig Unit (Elt F) ℕ UU ℕ

variable (m : (ℓ : Loc nD τ sig) → Buf (Elt F) ℓ) (ρ : Dev nD → PrngReg)

theorem bigSep_pair {ι : Type} {s : Finset ι} {Φ Ψ : ι → sProp 𝕄} :
    iprop(bigSep s Φ ∗ bigSep s Ψ) ⊢ bigSep s fun i => iprop(Φ i ∗ Ψ i) := Entails.of_eq (bigSep_sep' _ _ _).symm
theorem bigSep_unpair {ι : Type} {s : Finset ι} {Φ Ψ : ι → sProp 𝕄} :
    (bigSep s fun i => iprop(Φ i ∗ Ψ i)) ⊢ iprop(bigSep s Φ ∗ bigSep s Ψ) := Entails.of_eq (bigSep_sep' _ _ _)

/-! ## Over all copy semaphores -/

/-- One assertion for every copy semaphore: the send ones and the receive ones, step by step. -/
theorem sx_split (Φ : Sx → sProp 𝕄) : bigSep Finset.univ Φ
    = iprop((bigSep Finset.univ fun c : Fin 7 => iprop(Φ (false, 0, c) ∗ Φ (false, 1, c)))
      ∗ bigSep Finset.univ fun c : Fin 7 => iprop(Φ (true, 0, c) ∗ Φ (true, 1, c))) := by
  rw [bigSep_univ_prod, bigSep_univ_eq_bigSepL [false, true] (by decide) (by decide)]
  show iprop(bigSep Finset.univ (fun x : Fin 2 × Fin 7 => Φ (false, x)) ∗ bigSep Finset.univ (fun x : Fin 2 × Fin 7 => Φ (true, x))) = _
  rw [bigSep_univ_prod, bigSep_univ_prod, BI.bigSep_fin_two, BI.bigSep_fin_two, bigSep_sep', bigSep_sep']
  rfl

/-! ## What the launch leaves with a device -/

/-- Its barrier position, the rights to open its copy semaphores, and the tokens of the duties it pays. -/
def linear (d : Dev nD) : sProp 𝕄 :=
  iprop(atPos ER (barCell d) 0 ∅ 0 ∗ (bigSep Finset.univ fun k : Sx => openTok ER (kcell k d))
    ∗ (dutyTok ER (barCell (nb 1 d)) 0 0 ∗ dutyTok ER (barCell (nb 0 d)) 0 1)
    ∗ (bigSep Finset.univ fun c : Fin 7 => iprop(dutyTok ER (sCell 0 c d) 0 0 ∗ dutyTok ER (sCell 1 c d) 0 0))
    ∗ bigSep Finset.univ fun c : Fin 7 => iprop(dutyTok ER (rCell 0 c (nb 0 d)) 0 0 ∗ dutyTok ER (rCell 1 c (nb 1 d)) 0 0))

/-- With that: every invariant, that its neighbours' barriers are ready, and the signals it may wait for. -/
def Tk (d : Dev nD) : sProp 𝕄 :=
  iprop((∃ K, invs (pcs m) K ∗ reached ER (barCell (nb 1 d)) 0 ∗ reached ER (barCell (nb 0 d)) 0 ∗ linear d)
    ∗ cred (tallyAt (barCell d) () 2)
    ∗ bigSep Finset.univ fun c : Fin 7 => iprop(cred (tallyAt (rCell 0 c d) () N) ∗ cred (tallyAt (rCell 1 c d) () N)))

theorem open_k (K : GSem nD τ sig → ℕ) (d : Dev nD) (k : Sx) :
    iprop(invs (pcs m) K ∗ (openTok ER (kcell k d) ∗ semVal (kcell k d) 0))
      ⊢ (|={Set.univ}=> iprop(atPos ER (kcell k d) 0 ∅ 0 ∗ reached ER (kcell k d) 0) : sProp 𝕄) := by
  iintro ⟨#HI, Ho, Hv⟩
  ihave Hc := (show invs (pcs m) K ⊢ (cellInv ER (sched (pcs m)) (K (kcell k d)) (kcell k d) : sProp 𝕄) from
    bigSep_elim (Φ := fun x : Dev nD × Option Sx => (cellInv ER (sched (pcs m)) (K (acell x)) (acell x) : sProp 𝕄)) (Finset.mem_univ (d, some k))) $$ HI
  iapply (Rounds.cell_open ER (sched (pcs m)) (Set.mem_univ _))
  isplitl [Hc]; · iexact Hc
  isplitl [Ho] <;> iassumption

theorem reach_of (b : Fin 2) (d : Dev nD) :
    (bigSep Finset.univ fun k : Sx => reached ER (kcell k d) 0 : sProp 𝕄) ⊢ reach b d := by
  rw [sx_split]
  have h (c : Fin 7) : iprop(reached ER (rCell 0 c d) 0 ∗ reached ER (rCell 1 c d) 0) ⊢ (reached ER (rCell b c d) 0 : sProp 𝕄) := by
    rcases (by revert b; decide : b = 0 ∨ b = 1) with rfl | rfl
    · iintro ⟨H, -⟩; iexact H
    · iintro ⟨-, H⟩; iexact H
  have h' : (bigSep Finset.univ fun c : Fin 7 => iprop(reached ER (rCell 0 c d) 0 ∗ reached ER (rCell 1 c d) 0)) ⊢ (reach b d : sProp 𝕄) :=
    bigSep_mono fun c _ => h c
  iintro ⟨-, H⟩
  iapply h'
  iexact H

/-- What two messages of a step need, sorted by kind. -/
def kitParts (d : Dev nD) (c : Fin 7) : sProp 𝕄 :=
  iprop((dutyTok ER (sCell 0 c d) 0 0 ∗ dutyTok ER (sCell 1 c d) 0 0)
    ∗ (dutyTok ER (rCell 0 c (nb 0 d)) 0 0 ∗ dutyTok ER (rCell 1 c (nb 1 d)) 0 0)
    ∗ (reached ER (sCell 0 c d) 0 ∗ reached ER (sCell 1 c d) 0)
    ∗ (atPos ER (sCell 0 c d) 0 ∅ 0 ∗ atPos ER (sCell 1 c d) 0 ∅ 0)
    ∗ (atPos ER (rCell 0 c d) 0 ∅ 0 ∗ atPos ER (rCell 1 c d) 0 ∅ 0)
    ∗ (cred (tallyAt (rCell 0 c d) () N) ∗ cred (tallyAt (rCell 1 c d) () N)))
theorem kits_in (d : Dev nD) (c : Fin 7) :
    kitParts d c ⊢ (kits0 d c : sProp 𝕄) := by
  unfold kitParts kits0 kit0
  iintro ⟨⟨A0, A1⟩, ⟨B0, B1⟩, ⟨C0, C1⟩, ⟨D0, D1⟩, ⟨E0, E1⟩, G0, G1⟩
  isplitl [A0 B0 C0 D0 E0 G0]
  · isplitl [A0]; · iexact A0
    isplitl [B0]; · iexact B0
    isplitl [C0]; · iexact C0
    isplitl [D0]; · iexact D0
    isplitl [E0]; · iexact E0
    iexact G0
  · isplitl [A1]; · iexact A1
    isplitl [B1]; · iexact B1
    isplitl [C1]; · iexact C1
    isplitl [D1]; · iexact D1
    isplitl [E1]; · iexact E1
    iexact G1

/-- The copy semaphores opened at entry. -/
theorem hopen (d : Dev nD) : iprop(Tk m d ∗ Pipeline.ownSems0 osem d ∗ levAts L lv) ⊢ (|={Set.univ}=> Xk m d : sProp 𝕄) := by
  have h1 (K : GSem nD τ sig → ℕ) : iprop(invs (pcs m) K ∗ bigSep Finset.univ (fun k : Sx => iprop(openTok ER (kcell k d) ∗ semVal (kcell k d) 0)))
      ⊢ (|={Set.univ}=> bigSep Finset.univ (fun k : Sx => iprop(atPos ER (kcell k d) 0 ∅ 0 ∗ reached ER (kcell k d) 0)) : sProp 𝕄) :=
    (bigSep_with_persistent fun k _ => open_k m K d k).trans (bigSep_fupd _ _)
  unfold Tk linear Xk
  iintro ⟨⟨⟨%K, #HI, #R1, #R0, Hb, Ho, ⟨T1, T0⟩, TS, TR⟩, HcB, HcR⟩, Hs, Hl⟩
  imod (h1 K) $$ [Ho Hs] with H
  · isplitr; · iexact HI
    iapply bigSep_pair
    isplitl [Ho]; · iexact Ho
    iapply (show Pipeline.ownSems0 osem d ⊢ (bigSep Finset.univ fun k : Sx => (semVal (kcell k d) 0 : sProp 𝕄)) from Entails.of_eq rfl)
    iexact Hs
  imodintro
  ihave H' := bigSep_unpair $$ H
  icases H' with ⟨Hat, #Hr⟩
  ihave Hr0 := (reach_of (F := F) 0 d) $$ Hr
  ihave Hr1 := (reach_of (F := F) 1 d) $$ Hr
  ihave Ha := (Entails.of_eq (sx_split fun k : Sx => (atPos ER (kcell k d) 0 ∅ 0 : sProp 𝕄))) $$ Hat
  ihave Hq := (Entails.of_eq (sx_split fun k : Sx => (reached ER (kcell k d) 0 : sProp 𝕄))) $$ Hr
  icases Ha with ⟨HaS, HaR⟩
  icases Hq with ⟨HrS, -⟩
  isplitr; · iexists K; iexact HI
  isplitl [Hl]; · iexact Hl
  unfold talkIn barIn
  isplitl [Hb T1 T0 HcB]
  · isplitl [T1]; · iexact T1
    isplitl [T0]; · iexact T0
    isplitr; · iexact R1
    isplitr; · iexact R0
    isplitl [Hb]; · iexact Hb
    iexact HcB
  isplitl [Hr0]; · iexact Hr0
  isplitl [Hr1]; · iexact Hr1
  have hk : (bigSep Finset.univ (kitParts d) : sProp 𝕄) ⊢ bigSep Finset.univ (kits0 d) := bigSep_mono fun c _ => kits_in d c
  iapply hk
  unfold kitParts
  iapply bigSep_pair; isplitl [TS]; · iexact TS
  iapply bigSep_pair; isplitl [TR]; · iexact TR
  iapply bigSep_pair; isplitl [HrS]; · iexact HrS
  iapply bigSep_pair; isplitl [HaS]; · iexact HaS
  iapply bigSep_pair; isplitl [HaR]; · iexact HaR
  iexact HcR

theorem dones_split (d : Dev nD) :
    (bigSep Finset.univ (dones d) : sProp 𝕄) ⊢ Pipeline.ownSems0 osem d := by
  show _ ⊢ (bigSep Finset.univ fun k : Sx => (semVal (kcell k d) 0 : sProp 𝕄))
  rw [sx_split]
  have h : ∀ c : Fin 7, (dones d c : sProp 𝕄) ⊢ iprop((semVal (sCell 0 c d) 0 ∗ semVal (sCell 1 c d) 0) ∗ (semVal (rCell 0 c d) 0 ∗ semVal (rCell 1 c d) 0)) := fun c => by
    unfold dones done
    iintro ⟨⟨A, B⟩, C, D⟩
    isplitl [A C]
    · isplitl [A] <;> iassumption
    · isplitl [B] <;> iassumption
  exact (bigSep_mono fun c _ => h c).trans bigSep_unpair

/-! ## The region -/

abbrev bufs : Finset (DevRef τ sig) := Pipeline.ucRefs τ sig
abbrev arrs : Finset (DevRef τ sig) := Pipeline.arrRefs (τ := τ) spec0
theorem ownSemFacts : Pipeline.OwnSemFacts cfg0.spec osem := by decide

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r)
    ∗ StableHlo.held (c.tc : Thread nD τ) ∅ (V0 m c) ∗ Xk m c) ⊢ (pdats m 0 c).Φ 0 := by
  show iprop(Pipeline.scopedRest spec0 c ∗ _ ∗ _ ∗ _) ⊢ Φ₀ m c
  rw [scopedRest0_eq]
  unfold Φ₀ scr
  iintro ⟨⟨A, B, C, D⟩, Hp, -, HX⟩
  isplitl [HX]; · iexact HX
  isplitl [A B C D]
  · isplitl [A]; · iexact A
    isplitl [B]; · iexact B
    isplitl [C]; · iexact C
    iexact D
  iexact Hp

/-- What the region leaves: the barrier's counter at zero. -/
abbrev Yk (c : Dev nD) : sProp 𝕄 := semVal (barCell c) 0

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  show Φ₁ c ⊢ iprop(Pipeline.scopedRest spec0 c ∗ _ ∗ _ ∗ _ ∗ _)
  rw [scopedRest0_eq]
  unfold Φ₁ scr talkOut StableHlo.held
  rw [BI.bigSep_empty]
  iintro ⟨⟨Hb, Hd⟩, ⟨A, B, C, D⟩, Hp⟩
  isplitl [A B C D]
  · isplitl [A]; · iexact A
    isplitl [B]; · iexact B
    isplitl [C]; · iexact C
    iexact D
  isplitl [Hp]; · iexact Hp
  isplitr; · iempintro
  isplitl [Hd]; · iapply (dones_split (F := F) c); iexact Hd
  iexact Hb

theorem lv_stage (w : Fin cfg0.W) (s : Fin (cfg0.win w).nbuf) (c : Dev nD) : lv ((c : Thread nD τ), .dma ((cfg0.win w).sem s)) () ≤ 0 := by
  unfold lv
  have h : kind (.dma ((cfg0.win w).sem s)) = none := by
    rcases e : kind (.dma ((cfg0.win w).sem s)) with _ | o
    · rfl
    · have h := kind_eq e
      rcases o with _ | k
      · cases h
      · exfalso
        have h' := congrArg Fin.val (SemLoc.dma.inj h)
        have hw : ∀ (w : Fin cfg0.W) (s : Fin (cfg0.win w).nbuf), ((cfg0.win w).sem s).val < 6 := by decide
        have h6 := hw w s
        rw [h'] at h6
        simp only [sx] at h6
        omega
  rw [h]; exact le_refl _

theorem cutD (c : Dev nD) (t : Fin (cfg0.N + 1)) (g : GSem nD τ sig) (i : Unit) (h : 0 < (dat m c).owed t g i) : i ∈ L g ∧ (0 : ℕ) < lv g i := by
  match t, h with
  | ⟨0, _⟩, h =>
    rcases owe0_pos c (show 0 < owe0 c g i from h) with ⟨b, k, rfl⟩ | ⟨b, rfl⟩
    · exact ⟨by rw [L_tc]; exact Finset.mem_singleton_self _, by rw [lv_r]; omega⟩
    · exact ⟨by rw [L_tc]; exact Finset.mem_singleton_self _, by rw [lv_bar]; omega⟩
  | ⟨_ + 1, _⟩, h => exact absurd (show 0 < (0 : CellTallies nD τ sig Unit) g i from h) (Nat.lt_irrefl 0)

theorem V₂_rest (c : Dev nD) : ∀ b ∈ (bufs \ arrs) \ ∅, V₂ m c b = V0 m c b := fun b hb => by
  unfold V₂
  refine Function.update_of_ne (fun h => ?_) _ _
  subst h
  revert hb
  rw [Finset.sdiff_empty, Finset.mem_sdiff]
  exact fun hb => hb.2 (by decide)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ (bufs \ arrs) (Finset.empty_subset _) kitP rfl (fun c => (body m c).loose)
    (fun _ => 0) owe0 (fun c => (zero_add _).symm) (fun _ => rfl) (fun _ => rfl) (share_eq m)
    (V0 m) (V₂ m) (V₂_rest m)
    (Tk m) Yk (Xk m) Yk (hopen m) (hin m) (hout m)
    (fun c => by iintro H; imodintro; iexact H)
    (fun _ => 0)
    ⟨fun c w s => by rw [L_tc]; exact Finset.mem_singleton_self _, fun c w s => lv_stage w s c, fun c t g i h => cutD m c t g i h⟩
    (fun _ => iprop(emp))
    (fun _ _ => rfl) (arr_end m)

theorem arrs_sub : arrs ⊆ bufs := by decide

theorem reg_pre (c : Dev nD) :
    iprop(StableHlo.held (c : Thread nD τ) bufs (V0 m c) ∗ (Tk m c ∗ (∃ r, prngReg c r) ∗ ∃ W, owes (c : Thread nD τ) (owe0 c) W)) ⊢ (reg m).pre c := by
  show _ ⊢ iprop(StableHlo.held (c.tc : Thread nD τ) (arrs) (V0 m c) ∗ (∃ r, prngReg c r)
    ∗ (StableHlo.held (c.tc : Thread nD τ) (bufs \ arrs) (V0 m c) ∗ emp) ∗ Tk m c ∗ ∃ Wd, owes (c : Thread nD τ) (0 + owe0 c) Wd)
  rw [StableHlo.held_sub_split (c.tc : Thread nD τ) (arrs_sub) (V0 m c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) :
    (reg m).post c ⊢ iprop(StableHlo.held (c : Thread nD τ) bufs (V₂ m c) ∗ (semVal (barCell c) 0 ∗ ∃ W, owes (c : Thread nD τ) (0 : CellTallies nD τ sig Unit) W)) := by
  show iprop(StableHlo.held (c.tc : Thread nD τ) (arrs) (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig Unit) Wd) ⊢ _
  rw [StableHlo.held_sub_split (c.tc : Thread nD τ) (arrs_sub) (V₂ m c)]
  iintro ⟨Ha, -, ⟨Hr, -⟩, Hb, HO⟩
  isplitl [Ha Hr]; · isplitl [Ha] <;> iassumption
  isplitl [Hb]; · iexact Hb
  iexact HO

end Cert.KernelIdealProof
-- ==== Proof.KernelIdealLaunch.lean ====
/-
  The run of @main on the eight devices: the ghost state made at launch and dealt to the devices, the three stretches of @main in sequence,
  and what every final state holds.
-/
module

public import proofs.«01_k».proof.Proof.KernelIdealRegion

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat BodyObligation)

local notation "𝕄" => MT nD τ sig Unit (Elt F) ℕ UU ℕ

variable (m : (ℓ : Loc nD τ sig) → Buf (Elt F) ℓ) (ρ : Dev nD → PrngReg)

/-! ## The three stretches of @main -/

/-- What travels beside the buffers before the region, and after it. -/
def R₀ (c : Dev nD) : sProp 𝕄 := iprop(Tk m c ∗ (∃ r, prngReg c r) ∗ ∃ W, owes (c : Thread nD τ) (owe0 c) W)
def R₁ (c : Dev nD) : sProp 𝕄 := iprop(semVal (barCell c) 0 ∗ ∃ W, owes (c : Thread nD τ) (0 : CellTallies nD τ sig Unit) W)

/-- The buffers as launched. -/
abbrev Vm (c : Dev nD) : Valuation τ sig (Elt F) := fun b => m (c, b)

def seg0 : Pipeline.HostSeg (Name := ℕ) (U := UU) (pcfgs (F := F)) defs₀ 𝒱₀ L lv :=
  Pipeline.HostSeg.ofOps _ _ _ _ _ bufs hostOps0 (fun op h => Pipeline.sub_ucRefs op ((List.forall_iff_forall_mem.mp hostOps0_sub) op h))
    (fun op h => (List.forall_iff_forall_mem.mp hostOps0_fresh) op h) (Vm m) (R₀ m)
def seg1 : Pipeline.HostSeg (Name := ℕ) (U := UU) (pcfgs (F := F)) defs₀ 𝒱₀ L lv :=
  Pipeline.HostSeg.ofOps _ _ _ _ _ bufs hostOps1 (fun op h => Pipeline.sub_ucRefs op ((List.forall_iff_forall_mem.mp hostOps1_sub) op h))
    (fun op h => (List.forall_iff_forall_mem.mp hostOps1_fresh) op h) (V₂ m) R₁

def segs : List (Pipeline.Seg (pcfgs (F := F)) adm (pdats m) () defs₀ 𝒱₀ L lv) := [.host (seg0 m), .region (reg m), .host (seg1 m)]

theorem main_eq (c : Dev nD) : main (F := F) c = Pipeline.Seg.run (segs m) :=
  main_segs adm (pdats m) () 𝒱₀ L lv (seg0 m) (seg1 m) (reg m) rfl rfl c

theorem V0_eq (c : Dev nD) : V0 m c = StableHlo.after hostOps0 (Vm m c) := by
  unfold V0; rw [List.flatten_cons, List.flatten_nil, List.append_nil]

/-! ## The ghost state at launch -/

def barEmb : Dev nD ↪ GSem nD τ sig := ⟨fun c => barCell c, fun _ _ h => congrArg (fun g : GSem nD τ sig => g.1.1) h⟩
def kEmb : Dev nD × Sx ↪ GSem nD τ sig :=
  ⟨fun x => kcell x.2 x.1, fun _ _ h => Prod.ext (congrArg (fun g : GSem nD τ sig => g.1.1) h) (sx_inj (SemLoc.dma.inj (congrArg Prod.snd h)))⟩
abbrev barCells : Finset (GSem nD τ sig) := Finset.univ.map barEmb
abbrev kCells : Finset (GSem nD τ sig) := Finset.univ.map kEmb

theorem cells_disjoint : Disjoint barCells kCells := by
  rw [Finset.disjoint_left]
  intro g h₁ h₂
  obtain ⟨c, -, rfl⟩ := Finset.mem_map.mp h₁
  obtain ⟨x, -, h⟩ := Finset.mem_map.mp h₂
  have h' : (SemLoc.dma (sx x.2) : SemLoc sig) = .reg barS := congrArg Prod.snd h
  cases h'

theorem acell_mem (x : Dev nD × Option Sx) : acell x ∈ barCells ∪ kCells := by
  obtain ⟨d, _ | k⟩ := x
  · exact Finset.mem_union_left _ (Finset.mem_map_of_mem barEmb (Finset.mem_univ d))
  · exact Finset.mem_union_right _ (Finset.mem_map_of_mem kEmb (Finset.mem_univ (d, k)))

/-- One token for each duty: two for a barrier, one for a copy semaphore. -/
def tokEmb : Dev nD × (Fin 2 ⊕ Sx) ↪ GSem nD τ sig × ℕ × Fin 2 :=
  ⟨fun x => match x.2 with | .inl e => (barCell x.1, 0, e) | .inr k => (kcell k x.1, 0, 0), by
    rintro ⟨d, e | k⟩ ⟨d', e' | k'⟩ h
    · have h1 := congrArg (fun t : GSem nD τ sig × ℕ × Fin 2 => t.1.1.1) h
      have h2 := congrArg (fun t : GSem nD τ sig × ℕ × Fin 2 => t.2.2) h
      dsimp only at h1 h2
      rw [h1, h2]
    · have h1 := congrArg (fun t : GSem nD τ sig × ℕ × Fin 2 => t.1.2) h
      dsimp only at h1
      cases h1
    · have h1 := congrArg (fun t : GSem nD τ sig × ℕ × Fin 2 => t.1.2) h
      dsimp only at h1
      cases h1
    · have h1 := congrArg (fun t : GSem nD τ sig × ℕ × Fin 2 => t.1.1.1) h
      have h2 := congrArg (fun t : GSem nD τ sig × ℕ × Fin 2 => t.1.2) h
      dsimp only at h1 h2
      rw [h1, sx_inj (SemLoc.dma.inj h2)]⟩
def toks : Finset (GSem nD τ sig × ℕ × Fin 2) := Finset.univ.map tokEmb

def u₀ : UU :=
  (initOf (Pipeline.cells (Pipeline.pin (pcfgs (F := F)) adm) cellOf_inj) (Pipeline.launchToks (Pipeline.pin (pcfgs (F := F)) adm) cellOf_inj),
    launchOf barCells kCells toks)

/-- A resource as the holding of device 0 alone. -/
def atZero (X : sProp 𝕄) (c : Dev nD) : sProp 𝕄 := if c = 0 then X else iprop(emp)
theorem atZero_all (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells kCells toks)))

/-! ## The tokens -/

/-- The tokens of the duties OF a device's semaphores. -/
def ownToks (d : Dev nD) : sProp 𝕄 :=
  iprop((dutyTok ER (barCell d) 0 0 ∗ dutyTok ER (barCell d) 0 1)
    ∗ (bigSep Finset.univ fun c : Fin 7 => iprop(dutyTok ER (sCell 0 c d) 0 0 ∗ dutyTok ER (sCell 1 c d) 0 0))
    ∗ bigSep Finset.univ fun c : Fin 7 => iprop(dutyTok ER (rCell 0 c d) 0 0 ∗ dutyTok ER (rCell 1 c d) 0 0))
/-- The tokens of the duties a device pays. -/
def payToks (d : Dev nD) : sProp 𝕄 :=
  iprop((dutyTok ER (barCell (nb 1 d)) 0 0 ∗ dutyTok ER (barCell (nb 0 d)) 0 1)
    ∗ (bigSep Finset.univ fun c : Fin 7 => iprop(dutyTok ER (sCell 0 c d) 0 0 ∗ dutyTok ER (sCell 1 c d) 0 0))
    ∗ bigSep Finset.univ fun c : Fin 7 => iprop(dutyTok ER (rCell 0 c (nb 0 d)) 0 0 ∗ dutyTok ER (rCell 1 c (nb 1 d)) 0 0))

theorem toks_own : bigSep toks (fun x => (dutyTok ER x.1 x.2.1 x.2.2 : sProp 𝕄)) = bigSep Finset.univ fun d : Dev nD => ownToks d := by
  unfold toks
  rw [bigSep_map, bigSep_univ_prod]
  refine bigSep_congr fun d _ => ?_
  rw [BI.bigSep_univ_sum, BI.bigSep_fin_two, sx_split]
  rfl

theorem around (b : Fin 2) (Φ : Dev nD → sProp 𝕄) : bigSep Finset.univ Φ = bigSep Finset.univ fun d => Φ (nb b d) :=
  bigSep_univ_equiv (ring b) Φ

/-- The tokens go to the neighbours that pay. -/
theorem toks_pay : (bigSep Finset.univ fun d : Dev nD => (ownToks d : sProp 𝕄)) ⊢ bigSep Finset.univ fun d : Dev nD => payToks d := by
  have h2 (Φ Ψ : Dev nD → sProp 𝕄) : (bigSep Finset.univ fun d => iprop(Φ d ∗ Ψ d)) = bigSep Finset.univ fun d => iprop(Φ (nb 1 d) ∗ Ψ (nb 0 d)) := by
    rw [bigSep_sep', bigSep_sep', around 1 Φ, around 0 Ψ]
  have h3 (Φ Ψ : Fin 7 → Dev nD → sProp 𝕄) : (bigSep Finset.univ fun d => bigSep Finset.univ fun c : Fin 7 => iprop(Φ c d ∗ Ψ c d))
      = bigSep Finset.univ fun d => bigSep Finset.univ fun c : Fin 7 => iprop(Φ c (nb 0 d) ∗ Ψ c (nb 1 d)) := by
    have e (Φ Ψ : Fin 7 → Dev nD → sProp 𝕄) : (fun d => bigSep Finset.univ fun c : Fin 7 => iprop(Φ c d ∗ Ψ c d))
        = fun d => iprop((bigSep Finset.univ fun c => Φ c d) ∗ bigSep Finset.univ fun c => Ψ c d) := funext fun d => bigSep_sep' _ _ _
    rw [e Φ Ψ, e (fun c d => Φ c (nb 0 d)) (fun c d => Ψ c (nb 1 d)), bigSep_sep', bigSep_sep',
      around 0 (fun d => bigSep Finset.univ fun c => Φ c d), around 1 (fun d => bigSep Finset.univ fun c => Ψ c d)]
  have h4 (A B C : Dev nD → sProp 𝕄) : (bigSep Finset.univ fun d => iprop(A d ∗ B d ∗ C d)) = iprop(bigSep Finset.univ A ∗ bigSep Finset.univ B ∗ bigSep Finset.univ C) := by
    rw [bigSep_sep', bigSep_sep']
  unfold ownToks payToks
  rw [h4, h4]
  refine sep_mono (Entails.of_eq (h2 (fun d => dutyTok ER (barCell d) 0 0) (fun d => dutyTok ER (barCell d) 0 1))) (sep_mono_right ?_)
  exact Entails.of_eq (h3 (fun c d => dutyTok ER (rCell 0 c d) 0 0) (fun c d => dutyTok ER (rCell 1 c d) 0 0))

/-! ## The credit -/

theorem tal_at (d c : Dev nD) (b b' : Fin 2) (k k' : Fin 7) :
    tal d b' k' (rCell b k c) () = if k' = k then (if b' = b ∧ d = nb (op b) c then N else 0) else 0 := by
  rw [tallyAt_apply]
  by_cases h : rCell b k c = rCell b' k' (nb b' d)
  · have hc : c = nb b' d := congrArg (fun g : GSem nD τ sig => g.1.1) h
    have hk := sx_inj (SemLoc.dma.inj (congrArg Prod.snd h))
    have hb : b = b' := congrArg (fun x : Sx => x.2.1) hk
    have hkk : k = k' := congrArg (fun x : Sx => x.2.2) hk
    subst hb hkk
    rw [if_pos ⟨h, rfl⟩, if_pos rfl, if_pos ⟨rfl, by rw [hc, nb_nb]⟩]
  · rw [if_neg fun h' => h h'.1]
    by_cases hk : k' = k
    · rw [if_pos hk, if_neg]
      rintro ⟨rfl, rfl⟩
      subst hk
      exact h (by rw [nb_nb'])
    · rw [if_neg hk]

theorem owed_r (d c : Dev nD) (b : Fin 2) (k : Fin 7) : owe0 d (rCell b k c) () = if d = nb (op b) c then N else 0 := by
  have hb (e : Dev nD) : (tallyAt (barCell e) () 1 : CellTallies nD τ sig Unit) (rCell b k c) () = 0 := by
    rw [tallyAt_apply, if_neg]
    rintro ⟨h, -⟩
    have h' : (SemLoc.dma (sx (true, b, k)) : SemLoc sig) = .reg barS := congrArg Prod.snd h
    cases h'
  unfold owe0 owe1
  rw [Pi.add_apply, Finsupp.add_apply, Pi.add_apply, Finsupp.add_apply, hb, hb, Nat.add_zero]
  unfold owe
  rw [Finset.sum_apply, Finsupp.finset_sum_apply, Finset.filter_true_of_mem (fun k _ => Nat.zero_le _)]
  rw [Finset.sum_congr rfl (fun x _ => show (tal d 1 x + tal d 0 x : CellTallies nD τ sig Unit) (rCell b k c) () = _ from by
    rw [Pi.add_apply, Finsupp.add_apply, tal_at, tal_at]), Finset.sum_add_distrib, Finset.sum_ite_eq' Finset.univ k, Finset.sum_ite_eq' Finset.univ k, if_pos (Finset.mem_univ _), if_pos (Finset.mem_univ _)]
  have hb2 : b = 0 ∨ b = 1 := by clear hb; revert b; decide
  rcases hb2 with rfl | rfl <;> simp

theorem owed_bar (d c : Dev nD) : owe0 d (barCell c) () = (if d = nb 1 c then 1 else 0) + if d = nb 0 c then 1 else 0 := by
  have hb (b : Fin 2) : (tallyAt (barCell (nb b d)) () 1 : CellTallies nD τ sig Unit) (barCell c) () = if d = nb (op b) c then 1 else 0 := by
    rw [tallyAt_apply]
    by_cases h : d = nb (op b) c
    · subst h; rw [nb_nb', if_pos ⟨rfl, rfl⟩, if_pos rfl]
    · rw [if_neg h, if_neg]
      rintro ⟨h', -⟩
      have hc : c = nb b d := congrArg (fun g : GSem nD τ sig => g.1.1) h'
      exact h (by rw [hc, nb_nb])
  have h0 : owe d 0 (barCell c) () = 0 := by
    by_contra h
    obtain ⟨b, k, -, hg⟩ := owe_pos d (Nat.pos_of_ne_zero h)
    have h' : (SemLoc.reg barS : SemLoc sig) = .dma (sx (true, b, k)) := congrArg Prod.snd hg
    cases h'
  unfold owe0 owe1
  rw [Pi.add_apply, Finsupp.add_apply, Pi.add_apply, Finsupp.add_apply, hb, hb, h0, Nat.zero_add]
  rfl

theorem launch_r (c : Dev nD) (b : Fin 2) (k : Fin 7) :
    tallyOn (rCell b k c) (launchCredit (Pipeline.owing owe0) 0 (rCell b k c)) = (tallyAt (rCell b k c) () N : CellTallies nD τ sig Unit) := by
  unfold tallyAt
  refine congrArg _ (Finsupp.ext fun u => ?_)
  cases u
  rw [Pipeline.launchCredit_owing, Finsupp.single_eq_same, Finset.sum_congr rfl fun d _ => owed_r d c b k, Finset.sum_ite_eq' Finset.univ (nb (op b) c) fun _ => N,
    if_pos (Finset.mem_univ _)]

theorem launch_bar (c : Dev nD) :
    tallyOn (barCell c) (launchCredit (Pipeline.owing owe0) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (nb 1 c) fun _ => 1, Finset.sum_ite_eq' Finset.univ (nb 0 c) fun _ => 1, if_pos (Finset.mem_univ _), if_pos (Finset.mem_univ _)]

def creditOf (d : Dev nD) : sProp 𝕄 :=
  iprop(cred (tallyAt (barCell d) () 2)
    ∗ bigSep Finset.univ fun c : Fin 7 => iprop(cred (tallyAt (rCell 0 c d) () N) ∗ cred (tallyAt (rCell 1 c d) () N)))

def osemEmb : Sx ↪ SemLoc sig := ⟨osem, fun _ _ h => sx_inj (SemLoc.dma.inj h)⟩

theorem credit_deal (c : Dev nD) : (Pipeline.launchCred owe0 c : sProp 𝕄) ⊢ creditOf c := by
  have hs : (Finset.univ.map osemEmb : Finset (SemLoc sig)) ⊆ Finset.univ.erase (.reg barS) := fun s hs => by
    obtain ⟨k, -, rfl⟩ := Finset.mem_map.mp hs
    exact Finset.mem_erase.mpr ⟨(fun h => nomatch (show (SemLoc.dma (sx k) : SemLoc sig) = .reg barS from h)), Finset.mem_univ _⟩
  unfold Pipeline.launchCred creditOf
  rw [bigSep_univ_at _ (SemLoc.reg barS), launch_bar]
  refine sep_mono_right ((bigSep_subset hs).trans ?_)
  rw [bigSep_map]
  have hk : ∀ c' : Fin 7, iprop(cred (tallyOn (rCell 0 c' c) (launchCredit (Pipeline.owing owe0) 0 (rCell 0 c' c)))
      ∗ cred (tallyOn (rCell 1 c' c) (launchCredit (Pipeline.owing owe0) 0 (rCell 1 c' c))))
      ⊢ (iprop(cred (tallyAt (rCell 0 c' c) () N) ∗ cred (tallyAt (rCell 1 c' c) () N)) : sProp 𝕄) := fun c' => by
    rw [launch_r, launch_r]
  refine (Entails.of_eq (sx_split fun k : Sx => (cred (tallyOn (kcell k c) (launchCredit (Pipeline.owing owe0) 0 (kcell k c))) : sProp 𝕄))).trans ?_
  iintro ⟨-, H⟩
  have hm : (bigSep Finset.univ fun c' : Fin 7 => iprop(cred (tallyOn (rCell 0 c' c) (launchCredit (Pipeline.owing owe0) 0 (rCell 0 c' c)))
      ∗ cred (tallyOn (rCell 1 c' c) (launchCredit (Pipeline.owing owe0) 0 (rCell 1 c' c)))))
      ⊢ (bigSep Finset.univ fun c' : Fin 7 => iprop(cred (tallyAt (rCell 0 c' c) () N) ∗ cred (tallyAt (rCell 1 c' c) () N)) : sProp 𝕄) :=
    bigSep_mono fun c' _ => hk c'
  iapply hm
  iexact H

/-! ## The deal -/

/-- What all devices know: every semaphore's invariant, and that every barrier is ready. -/
def records (K : GSem nD τ sig → ℕ) : sProp 𝕄 :=
  iprop((bigSep (barCells ∪ kCells) fun g => cellInv ER (sched (pcs m)) (K g) g) ∗ bigSep barCells fun g => reached ER g 0)
instance records_persistent (K : GSem nD τ sig → ℕ) : BI.Persistent (records m K) := by unfold records; infer_instance

theorem invs_of (K : GSem nD τ sig → ℕ) : (bigSep (barCells ∪ kCells) fun g => (cellInv ER (sched (pcs m)) (K g) g : sProp 𝕄)) ⊢ invs (pcs m) K := by
  unfold invs
  have hs : (Finset.univ.map ⟨acell, acell_inj⟩ : Finset (GSem nD τ sig)) ⊆ barCells ∪ kCells := fun g hg => by
    obtain ⟨x, -, rfl⟩ := Finset.mem_map.mp hg
    exact acell_mem x
  refine (bigSep_subset hs).trans ?_
  rw [bigSep_map]
  exact BI.Entails.refl _

theorem ready_at (c : Dev nD) : (bigSep barCells fun g => (reached ER g 0 : sProp 𝕄)) ⊢ reached ER (barCell c) 0 :=
  bigSep_elim (Finset.mem_map_of_mem barEmb (Finset.mem_univ c))

abbrev T₀ (c : Dev nD) : sProp 𝕄 := iprop(StableHlo.held (c : Thread nD τ) bufs (Vm m c) ∗ R₀ m c)
abbrev Tₙ (c : Dev nD) : sProp 𝕄 := iprop(StableHlo.held (c : Thread nD τ) bufs (V₃ m c) ∗ semVal (barCell c) 0)

/-- The rest of a device's holdings at launch. -/
def plain (c : Dev nD) : sProp 𝕄 :=
  iprop(StableHlo.held (c : Thread nD τ) bufs (Vm m c) ∗ creditOf c ∗ owes (c : Thread nD τ) (owe0 c) ∅ ∗ ∃ r, prngReg c r)

theorem T₀_intro (K : GSem nD τ sig → ℕ) (c : Dev nD) :
    iprop(records m K ∗ ((atPos ER (barCell c) 0 ∅ 0 ∗ (bigSep Finset.univ fun k : Sx => openTok ER (kcell k c)) ∗ payToks c) ∗ plain m c)) ⊢ T₀ m c := by
  show _ ⊢ iprop(StableHlo.held (c : Thread nD τ) bufs (Vm m c) ∗ R₀ m c)
  unfold records payToks plain R₀ Tk linear creditOf
  iintro ⟨⟨#HI, #HR⟩, ⟨Ha, Ho, HB, HS, HV⟩, Hh, ⟨HcB, HcR⟩, HO, Hp⟩
  isplitl [Hh]; · iexact Hh
  isplitr [Hp HO]
  · isplitl [Ha Ho HB HS HV]
    · iexists K
      isplitr; · iapply (invs_of m K); iexact HI
      isplitr; · iapply (ready_at (F := F) (nb 1 c)); iexact HR
      isplitr; · iapply (ready_at (F := F) (nb 0 c)); iexact HR
      isplitl [Ha]; · iexact Ha
      isplitl [Ho]; · iexact Ho
      isplitl [HB]; · iexact HB
      isplitl [HS]; · iexact HS
      iexact HV
    isplitl [HcB]; · iexact HcB
    iexact HcR
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc = true) = {SemLoc.reg barS} from by decide, bigSep_singleton]

theorem init :
    iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe0 c) ∅ ∗ Pipeline.launchCred owe0 c ∗ prngReg c (ρ c) ∗ G c)
      ⊢ (iprop(plain m c ∗ (semVal (barCell c) 0 ∗ G c)) : sProp 𝕄) := by
    rw [show unscopedBufs c (fun b => m ((c : Thread nD τ).loc b)) = StableHlo.held (c : Thread nD τ) bufs (Vm m c) from Pipeline.unscopedBufs_held c (Vm m c),
      unscopedSems0_eq]
    unfold plain
    iintro ⟨Hh, Hus, HO, Hcr, Hp, HG⟩
    isplitl [Hh Hcr HO Hp]
    · isplitl [Hh]; · iexact Hh
      isplitl [Hcr]; · iapply (credit_deal (F := F) c); iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep kCells (fun g => (openTok ER g : sProp 𝕄))
      ⊢ bigSep Finset.univ (fun c : Dev nD => bigSep Finset.univ fun k : Sx => openTok ER (kcell k c)) :=
    Entails.of_eq (by rw [bigSep_map, bigSep_univ_prod]; rfl)
  have hall : (bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c))
      ⊢ (bigSep Finset.univ fun c : Dev nD => iprop(plain m c ∗ (semVal (barCell c) 0 ∗ G c)) : sProp 𝕄) := bigSep_mono fun c _ => hcore c
  have hG : bigSep Finset.univ (G (F := F)) ⊢ BI.own (ER (launchOf barCells kCells toks)) := Entails.of_eq (atZero_all _)
  iintro ⟨H, -⟩
  ihave H' := hall $$ H
  ihave H2 := bigSep_unpair $$ H'; icases H2 with ⟨HB, H3⟩
  ihave H4 := bigSep_unpair $$ H3; icases H4 with ⟨Hv, HG⟩
  ihave Hu := hG $$ HG
  imod (Rounds.fund_launch ER (sched (pcs m)) cells_disjoint (fun g _ h => h) toks) $$ [Hv Hu] with ⟨%K, -, #Hinv, #Hr, Hat, Hopen, Htok⟩
  · isplitl [Hv]
    · iapply hv $$ Hv
    · iexact Hu
  imodintro
  iapply (bigSep_with_persistent (R := records m K)
    (Φ := fun c => iprop((atPos ER (barCell c) 0 ∅ 0 ∗ (bigSep Finset.univ fun k : Sx => openTok ER (kcell k c)) ∗ payToks c) ∗ plain m c)) fun c _ => T₀_intro m K c)
  isplitr
  · unfold records
    isplitr; · iexact Hinv
    iexact Hr
  iapply bigSep_pair
  isplitr [HB]
  · iapply bigSep_pair; isplitl [Hat]; · iapply hat $$ Hat
    iapply bigSep_pair; isplitl [Hopen]; · iapply hopen $$ Hopen
    iapply (toks_pay (F := F))
    iapply (Entails.of_eq (toks_own (F := F))) $$ Htok
  · iexact HB

/-! ## The run -/

/-- The buffers the claims speak of: the arguments and the result. -/
def shown : List (Ref sig .tc) := [main_arg0, main_arg1, main_arg2, main_arg3, main_arg4, main_v15]
abbrev shownRefs : Finset (DevRef τ sig) := (shown.map fun b => Proc.devRef (τ := τ) .tc b).toFinset
theorem shown_sub : shownRefs ⊆ bufs := by decide
theorem held_shown (c : Dev nD) (W : Valuation τ sig (Elt F)) : (StableHlo.held (c : Thread nD τ) shownRefs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v15) ↦{fullShare} W (Proc.devRef .tc main_v15))) := by
  unfold StableHlo.held
  rw [show shownRefs = {Proc.devRef .tc main_arg0, Proc.devRef .tc main_arg1, Proc.devRef .tc main_arg2, Proc.devRef .tc main_arg3, Proc.devRef .tc main_arg4, Proc.devRef .tc main_v15} from by decide,
    bigSep_insert (by decide), bigSep_insert (by decide), bigSep_insert (by decide), bigSep_insert (by decide), bigSep_insert (by decide), bigSep_singleton]
  rfl

theorem unscoped_eq : ∀ sm : SemLoc sig, sm.isScoped .tc = false → sm = .reg barS := by decide

/-- What the final memory of a device holds. -/
def holds (c : Dev nD) (s : (ℓ : Loc nD τ sig) → Buf (Elt F) ℓ) : Prop :=
  (s ((c : Thread nD τ).loc main_arg0) = V₃ m c (Proc.devRef .tc main_arg0) ∧ s ((c : Thread nD τ).loc main_arg1) = V₃ m c (Proc.devRef .tc main_arg1)
    ∧ s ((c : Thread nD τ).loc main_arg2) = V₃ m c (Proc.devRef .tc main_arg2) ∧ s ((c : Thread nD τ).loc main_arg3) = V₃ m c (Proc.devRef .tc main_arg3)
    ∧ s ((c : Thread nD τ).loc main_arg4) = V₃ m c (Proc.devRef .tc main_arg4)) ∧ s ((c : Thread nD τ).loc main_v15) = V₃ m c (Proc.devRef .tc main_v15)

set_option backward.isDefEq.respectTransparency.types false in
/-- From any memory with all counters zero, @main on the eight devices terminates; at the end the arguments and the result are what the
    three stretches make of them, and all counters are zero. -/
theorem run_main : θ_run (defs (F := F)) (onTc (τ := τ) (main (F := F))) (⟨m, fun _ => 0, ρ⟩ : MemSt nD τ sig (Elt F))
    (fun r => (∀ c : Dev nD, holds m c r.2.mem) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owe0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [atZero_all]; iexact HX)
    (T₀ := T₀ m) (Tₙ := Tₙ m)
    (hch := by
      refine ⟨fun c => .rfl, fun c => ?_, fun c => reg_post m c, fun c => ?_⟩
      · show iprop(StableHlo.held (c : Thread nD τ) bufs (StableHlo.after hostOps0 (Vm m c)) ∗ R₀ m c) ⊢ _
        rw [← V0_eq]
        exact reg_pre m c
      · show iprop(StableHlo.held (c : Thread nD τ) bufs (V₃ m c) ∗ R₁ c) ⊢ _
        unfold R₁
        iintro ⟨Hh, Hb, HO⟩
        isplitr [HO]
        · isplitl [Hh] <;> iassumption
        · iexact HO)
    (hinit := init m ρ)
    (QY := fun c s => holds m c s.mem ∧ s.sem (barCell c) = 0)
    (hfin := fun c s' => by
      dsimp only [Tₙ]
      rw [StableHlo.held_sub_split (c : Thread nD τ) shown_sub, held_shown]
      iintro ⟨⟨⟨⟨H0, H1, H2, H3, H4, H5⟩, -⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ h5⟩, by simpa using hb⟩
      iexact HSI)
    (hQ := fun s h hs => ⟨fun c => (h c).1, sem_eq_zero hs fun c sm hsm => by
      obtain rfl := unscoped_eq sm hsm
      exact (h c).2⟩)

/-! ## What the arguments and the result hold -/

theorem V₃_arg (c : Dev nD) (b : Ref sig .tc) (h15 : b ≠ main_v15) (h14 : b ≠ main_v14) : V₃ m c (Proc.devRef .tc b) = V m c b := by
  unfold V₃ V₂
  rw [StableHlo.after_cons, StableHlo.after_nil, StableHlo.unary_result_ne _ _ _ _ _ _ h15, Function.update_of_ne (StableHlo.devRef_ne_of_ne h14)]

/-- The arguments of a device unchanged. -/
def kept (c : Dev nD) (s : (ℓ : Loc nD τ sig) → Buf (Elt F) ℓ) : Prop :=
  s ((c : Thread nD τ).loc main_arg0) = m ((c : Thread nD τ).loc main_arg0) ∧ s ((c : Thread nD τ).loc main_arg1) = m ((c : Thread nD τ).loc main_arg1)
    ∧ s ((c : Thread nD τ).loc main_arg2) = m ((c : Thread nD τ).loc main_arg2) ∧ s ((c : Thread nD τ).loc main_arg3) = m ((c : Thread nD τ).loc main_arg3)
    ∧ s ((c : Thread nD τ).loc main_arg4) = m ((c : Thread nD τ).loc main_arg4)

theorem kept_of (c : Dev nD) {s : (ℓ : Loc nD τ sig) → Buf (Elt F) ℓ} (h : holds m c s) : kept m c s := by
  obtain ⟨⟨h0, h1, h2, h3, h4⟩, -⟩ := h
  exact ⟨h0.trans ((V₃_arg m c main_arg0 (by decide) (by decide)).trans (V_main_arg0 m c)),
    h1.trans ((V₃_arg m c main_arg1 (by decide) (by decide)).trans (V_main_arg1 m c)),
    h2.trans ((V₃_arg m c main_arg2 (by decide) (by decide)).trans (V_main_arg2 m c)),
    h3.trans ((V₃_arg m c main_arg3 (by decide) (by decide)).trans (V_main_arg3 m c)),
    h4.trans ((V₃_arg m c main_arg4 (by decide) (by decide)).trans (V_main_arg4 m c))⟩

end Cert.KernelIdealProof
-- ==== Proof.Frames.lean ====
/-
  The claims that speak of a run alone: each program terminates, leaves its arguments as they were and every counter at zero; and the
  two constants the exact program names in place of the printed words.
-/
module

public import proofs.«01_k».proof.Defs
public import proofs.«01_k».proof.Proof.Gen.ReferenceIdeal
public import proofs.«01_k».proof.Proof.Gen.ReferenceIdeal.Run
public import proofs.«01_k».proof.Proof.KernelLaunch
public import proofs.«01_k».proof.Proof.KernelIdealLaunch

@[expose] public section

noncomputable section

namespace Cert.Frames

open Idealize.ShloMosaic Idealize.SL.Sem

/-- The kernel over its stored words. -/
theorem kernel : Cert.quiescent_Kernel := fun m ρ _ =>
  (θ_run Cert.Kernel.defs _ _).mono (fun _ h => ⟨fun c => Cert.KernelProof.kept_of m c (h.1 c), h.2⟩)
    (Cert.KernelProof.run_main (F := Bits) m ρ)

/-- The kernel over the extended reals. -/
theorem kernelIdeal : Cert.quiescent_KernelIdeal := fun m ρ _ =>
  (θ_run Cert.KernelIdeal.defs _ _).mono (fun _ h => ⟨fun c => Cert.KernelIdealProof.kept_of m c (h.1 c), h.2⟩)
    (Cert.KernelIdealProof.run_main (F := Ideal) m ρ)

/-- The reference declares no counter. -/
theorem referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two named constants: the folded query scale and the inverse of the quantiser's scale. -/
theorem preserves : Cert.preserves_Kernel_KernelIdeal :=
  ⟨IdealRules.named_const.statement _ _ _ _ _ rfl, IdealRules.named_const.statement _ _ _ _ _ rfl⟩

end Cert.Frames

end
-- ==== Proof.KernelIdealMask.lean ====
/-
  The kernel's masks in closed form: at every step, which keys a row may see, by the block numbers of the row and of the key.
-/
module

public import proofs.«01_k».proof.Proof.KernelIdealSums
public import Idealize.ShloMosaic.Lib.Pointwise

@[expose] public section

set_option maxRecDepth 16384

noncomputable section

namespace Cert.KernelIdealProof

open Cert.KernelIdeal Cert.KernelIdeal.Gen
open Idealize.ShloMosaic

/-- A row of block `a` sees a key of block `b`. -/
abbrev Sees (a b : ℕ) : Prop := a = b ∨ b = 0 ∨ (a + b) % 3 = 0

/-! ## Words -/

/-- The rounded-down quotient by 64, as the kernel writes it. -/
def fl64 (v : BitVec 32) : BitVec 32 :=
  Scalar.select
    (IntOp.andi
      (IntOp.cmpi .ne (IntOp.subi (BitVec.setWidth 32 (IntOp.cmpi .sgt v 0#32)) (BitVec.setWidth 32 (IntOp.cmpi .slt v 0#32))) 1#32)
      (IntOp.cmpi .ne (IntOp.remsi .vector v 64#32) 0#32))
    (IntOp.subi (IntOp.divsi .vector v 64#32) 1#32) (IntOp.divsi .vector v 64#32)

theorem fl64_eq : ∀ r : Fin 1024, fl64 (BitVec.ofNat 32 r.val) = BitVec.ofNat 32 (r.val / 64) := by decide +kernel

/-- The mask at one row and key, from the words of the two blocks. -/
def maskW (a b : BitVec 32) : BitVec 1 :=
  IntOp.ori (IntOp.ori (IntOp.cmpi .eq a b) (IntOp.cmpi .eq b 0#32))
    (IntOp.cmpi .eq (IntOp.remsi .vector b 3#32) (IntOp.remsi .vector (IntOp.subi 3#32 (IntOp.remsi .vector a 3#32)) 3#32))

/-- The row's block. -/
def rowW (d : Dev nD) (j : Fin 1024) : BitVec 32 := IntOp.addi (Scalar.muli (my d) 16#32) (fl64 (BitVec.ofNat 32 j.val))
/-- The key's block at step `c`. -/
def keyW (d : Dev nD) (c : BitVec 32) (r : Fin 1024) : BitVec 32 :=
  IntOp.addi
    (Scalar.select (IntOp.cmpi .slt (BitVec.ofNat 32 r.val) 512#32)
      (Scalar.muli (Scalar.remsi (Scalar.addi (Scalar.subi (my d) c) 8#32) 8#32) 16#32)
      (Scalar.muli (Scalar.remsi (Scalar.addi (my d) c) 8#32) 16#32))
    (fl64 (BitVec.ofNat 32 r.val))

theorem msk_word (d : Dev nD) (c : Fin 8) (j r : Fin 1024) :
    msk d c.val (ix2 j r) = maskW (rowW d j) (keyW d (BitVec.ofNat 32 c.val) r) := by
  have h1 : Scalar.subi (Scalar.extui (Scalar.cmpi .sgt 64#32 0#32) : BitVec 32) (Scalar.extui (Scalar.cmpi .slt 64#32 0#32)) = 1#32 := by decide
  fin_vals c with hc <;> rw [hc] <;>
    pointwise [msk, rows, rows3, cols, k0_pay28, k0_pay29, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, rowW, fl64, keyW, maskW] <;> rw [h1]

theorem my_eq : ∀ d : Dev nD, my d = BitVec.ofNat 32 d.val := by decide +kernel
theorem cw_eq : ∀ (d : Dev nD) (c : Fin 8), Scalar.muli (Scalar.remsi (Scalar.addi (Scalar.subi (my d) (BitVec.ofNat 32 c.val)) 8#32) 8#32) 16#32
    = BitVec.ofNat 32 ((own 0 c.val d).val * 16) := by decide +kernel
theorem ccw_eq : ∀ (d : Dev nD) (c : Fin 8), Scalar.muli (Scalar.remsi (Scalar.addi (my d) (BitVec.ofNat 32 c.val)) 8#32) 16#32
    = BitVec.ofNat 32 ((own 1 c.val d).val * 16) := by decide +kernel
theorem half_eq : ∀ r : Fin 1024, IntOp.cmpi .slt (BitVec.ofNat 32 r.val) 512#32 = BitVec.ofBool (decide (r.val < 512)) := by decide +kernel
theorem rem3_eq : ∀ a : Fin 128, IntOp.remsi .vector (BitVec.ofNat 32 a.val) 3#32 = BitVec.ofNat 32 (a.val % 3) := by decide +kernel
theorem neg3_eq : ∀ a : Fin 3, IntOp.remsi .vector (IntOp.subi 3#32 (BitVec.ofNat 32 a.val)) 3#32 = BitVec.ofNat 32 ((3 - a.val) % 3) := by decide +kernel

/-- Which of the two rings brings row `r`. -/
abbrev side (r : Fin 1024) : Fin 2 := if r.val < 512 then 0 else 1

theorem rowW_eq (d : Dev nD) (j : Fin 1024) : rowW d j = BitVec.ofNat 32 (d.val * 16 + j.val / 64) := by
  unfold rowW
  rw [fl64_eq, my_eq]
  show (BitVec.ofNat 32 d.val * 16#32) + _ = _
  rw [← BitVec.ofNat_mul, ← BitVec.ofNat_add]

theorem keyW_eq (d : Dev nD) (c : Fin 8) (r : Fin 1024) :
    keyW d (BitVec.ofNat 32 c.val) r = BitVec.ofNat 32 ((own (side r) c.val d).val * 16 + r.val / 64) := by
  unfold keyW
  rw [fl64_eq, cw_eq, ccw_eq, half_eq]
  show (if BitVec.ofBool (decide (r.val < 512)) = 1#1 then _ else _) + _ = _
  by_cases h : r.val < 512
  · rw [show side r = 0 from if_pos h, decide_eq_true h, if_pos (by decide), ← BitVec.ofNat_add]
  · rw [show side r = 1 from if_neg h, decide_eq_false h, if_neg (by decide), ← BitVec.ofNat_add]

theorem ofNat_inj {a b : ℕ} (ha : a < 128) (hb : b < 128) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · intro h; rw [h]

theorem maskW_eq {a b : ℕ} (ha : a < 128) (hb : b < 128) :
    maskW (BitVec.ofNat 32 a) (BitVec.ofNat 32 b) = BitVec.ofBool (decide (Sees a b)) := by
  unfold maskW
  rw [rem3_eq ⟨a, ha⟩, rem3_eq ⟨b, hb⟩, neg3_eq ⟨a % 3, Nat.mod_lt _ (by decide)⟩]
  show (BitVec.ofBool (BitVec.ofNat 32 a == BitVec.ofNat 32 b) ||| BitVec.ofBool (BitVec.ofNat 32 b == BitVec.ofNat 32 0))
    ||| BitVec.ofBool (BitVec.ofNat 32 (b % 3) == BitVec.ofNat 32 ((3 - a % 3) % 3)) = _
  rw [BitVec.ofBool_or_ofBool, BitVec.ofBool_or_ofBool]
  congr 1
  rw [Bool.eq_iff_iff]
  simp only [Bool.or_eq_true, beq_iff_eq, decide_eq_true_eq]
  rw [ofNat_inj ha hb, ofNat_inj hb (by omega), ofNat_inj (by omega) (by omega)]
  unfold Sees
  constructor
  · rintro ((h | h) | h)
    · exact .inl h
    · exact .inr (.inl h)
    · exact .inr (.inr (by omega))
  · rintro (h | h | h)
    · exact .inl (.inl h)
    · exact .inl (.inr h)
    · exact .inr (by omega)

/-- Row `j` of device `d` and, at step `c`, row `r` of the keys held then. -/
theorem msk_at (d : Dev nD) (c : Fin 8) (j r : Fin 1024) :
    msk d c.val (ix2 j r) = BitVec.ofBool (decide (Sees (d.val * 16 + j.val / 64) ((own (side r) c.val d).val * 16 + r.val / 64))) := by
  rw [msk_word, rowW_eq, keyW_eq]
  have h1 : d.val < 8 := d.isLt
  have h2 : (own (side r) c.val d).val < 8 := (own (side r) c.val d).isLt
  exact maskW_eq (by omega) (by omega)

end Cert.KernelIdealProof

end
-- ==== Proof.Quant.lean ====
/-
  The quantiser over the extended reals: scale, round to nearest even, clip to the signed byte; and the constants both programs hold.
-/
module

public import Idealize.ShloMosaic.Lib.Pointwise

@[expose] public section

noncomputable section

namespace Cert.Quant

open Idealize.ShloMosaic

/-! ## Constants -/

theorem scale_bits : Ideal.ofBits .f32 0x41E1C71C#32 = ((3699143 / 131072 : ℝ) : EReal) := by
  simp [Ideal.ofBits, Ideal.ieee, -EReal.coe_mul]; norm_num
theorem score_bits : Ideal.ofBits .f32 0x3DB504F3#32 = ((11863283 / 134217728 : ℝ) : EReal) := by
  simp [Ideal.ofBits, Ideal.ieee, -EReal.coe_mul]; norm_num
theorem top_bits : Ideal.ofBits .f32 0x7F800000#32 = ⊤ := by simp [Ideal.ofBits, Ideal.ieee]
theorem bot_bits : Ideal.ofBits .f32 0xFF800000#32 = ⊥ := by simp [Ideal.ofBits, Ideal.ieee]

/-! ## Sums and quotients of reals -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real {y : ℝ} (h : y ≠ 0) (x : ℝ) : Ideal.div (x : EReal) (y : EReal) = ((x / y : ℝ) : EReal) := by
  rw [Ideal.div_coe h, ← EReal.coe_mul, mul_one_div]

/-! ## The quantiser -/

/-- The quantised value of `z`, as an extended real. -/
def qz (z : EReal) : EReal :=
  min ((((127#32 : BitVec 32).toInt : ℤ) : ℝ) : EReal)
    (max ((((4294967169#32 : BitVec 32).toInt : ℤ) : ℝ) : EReal) (Ideal.liftRound Ideal.roundHalfEven (z * Ideal.ofBits .f32 0x41E1C71C#32)))

theorem lo_word : (4294967169#32 : BitVec 32).toInt = -127 := by decide
theorem hi_word : (127#32 : BitVec 32).toInt = 127 := by decide

/-- It is an integer of at most seven bits. -/
theorem qz_int (z : EReal) : ∃ n : ℤ, -127 ≤ n ∧ n ≤ 127 ∧ qz z = ((n : ℝ) : EReal) := by
  unfold qz
  rw [lo_word, hi_word]
  generalize z * Ideal.ofBits .f32 0x41E1C71C#32 = y
  induction y with
  | bot => exact ⟨-127, le_refl _, by norm_num, by
      rw [Ideal.liftRound_bot, max_eq_left bot_le, min_eq_right (EReal.coe_le_coe_iff.2 (by norm_num))]⟩
  | top => exact ⟨127, by norm_num, le_refl _, by rw [Ideal.liftRound_top, max_eq_right le_top, min_eq_left le_top]⟩
  | coe r =>
    refine ⟨min 127 (max (-127) (Ideal.roundHalfEven r)), le_min (by norm_num) (le_max_left _ _), min_le_left _ _, ?_⟩
    rw [Ideal.liftRound_coe, ← EReal.coe_strictMono.monotone.map_max, ← EReal.coe_strictMono.monotone.map_min, Int.cast_min, Int.cast_max]

/-- Stored as a signed byte and read back it is itself. -/
theorem qz_byte (φ φ' : FTy) (z : EReal) :
    FloatOps.sitofp (F := Ideal) φ (FloatOps.fptosi (F := Ideal) (φ := φ') 8 (qz z)) = qz z := by
  obtain ⟨n, h1, h2, h⟩ := qz_int z
  rw [h]
  show (((BitVec.ofInt 8 (Ideal.toIntClamped (-(2 ^ (8 - 1) : ℕ)) ((2 ^ (8 - 1) : ℕ) - 1) ((n : ℝ) : EReal))).toInt : ℝ) : EReal) = _
  have e : Ideal.toIntClamped (-(2 ^ (8 - 1) : ℕ)) ((2 ^ (8 - 1) : ℕ) - 1) ((n : ℝ) : EReal) = n := by
    show max _ (min _ (if 0 ≤ (n : ℝ) then ⌊(n : ℝ)⌋ else ⌈(n : ℝ)⌉)) = n
    rw [Int.floor_intCast, Int.ceil_intCast, ite_self]
    norm_num
    omega
  rw [e, BitVec.toInt_ofInt]
  congr 2
  unfold Int.bmod
  norm_num
  omega

/-- The quantised value, as a real. -/
def qr (z : EReal) : ℝ := (qz z).toReal

theorem qz_real (z : EReal) : qz z = (qr z : EReal) := by
  obtain ⟨n, -, -, h⟩ := qz_int z
  unfold qr
  rw [h, EReal.toReal_coe]

end Cert.Quant

end
-- ==== Proof.KernelIdealReads.lean ====
/-
  The kernel's pieces of arithmetic over the extended reals, read at an index: the queries, the quantised piece, one step's weights and
  sums, one head of the output; and the loads, as reads at an index.
-/
module

public import proofs.«01_k».proof.Proof.KernelIdealMask
public import proofs.«01_k».proof.Proof.KernelIdealData
public import proofs.«01_k».proof.Proof.Quant

@[expose] public section

set_option maxRecDepth 16384

noncomputable section

namespace Cert.KernelIdealProof

open Cert.KernelIdeal Cert.KernelIdeal.Gen Cert.Quant
open Idealize.ShloMosaic

/-! ## Loads -/

theorem at1_eq (j : Fin 1024) (e : Fin 128) : at1 j e = ix3 0 j e := by funext a; fin_cases a <;> rfl
theorem at1'_eq (j : Fin 1024) : at1' j = ix3 0 j 0 := by funext a; fin_cases a <;> rfl
theorem at7_eq (h : Fin 8) (j : Fin 1024) (e : Fin 128) : at7 h.isLt j e = ix3 h j e := by funext a; fin_cases a <;> rfl
theorem at9_eq (h : Fin 8) (j : Fin 1024) : at9 h.isLt j = ix3 h j 0 := by funext a; fin_cases a <;> rfl
theorem at8_eq (h : Fin 8) (j : Fin 1024) (e : Fin 128) : at8 h j e = ix4 0 h j e := by funext a; fin_cases a <;> rfl

theorem rdQ_ix (h : Fin 8) (q : QBuf Ideal) (j : Fin 1024) (e : Fin 128) : rdQ h.isLt q (ix3 0 j e) = q (ix3 h j e) := by
  rw [rdQ_at]; exact congrArg q (at7_eq h j e)
theorem rdA_ix (h : Fin 8) (a : ABuf Ideal) (j : Fin 1024) (e : Fin 128) : rdA h.isLt a (ix3 0 j e) = a (ix3 h j e) := by
  rw [rdA_at]; exact congrArg a (at7_eq h j e)
theorem rdL_ix (h : Fin 8) (l : LBuf Ideal) (j : Fin 1024) : rdL h.isLt l (ix3 0 j 0) = l (ix3 h j 0) := by
  rw [rdL_at]; exact congrArg l (at9_eq h j)

theorem rd0_ix (f : B0 Ideal) (i j : Fin 1024) : rd0 f (ix2 i j) = f (ix2 i j) := by
  show f ((BM0.access all2).emb _) = _
  congr 1; funext a; apply Fin.ext
  fin_cases a
  · show 0 + 1 * i.val = i.val; omega
  · show 0 + 1 * j.val = j.val; omega
theorem rd5_ix (f : B5 Ideal) (i j : Fin 1024) : rd5 f (ix2 i j) = f (ix2 i j) := by
  show f ((BM5.access all2).emb _) = _
  congr 1; funext a; apply Fin.ext
  fin_cases a
  · show 0 + 1 * i.val = i.val; omega
  · show 0 + 1 * j.val = j.val; omega
theorem rd1_ix (h : Fin 8) (f : B1 Ideal) (i : Fin 1024) (j : Fin 128) : rd1 h.isLt f (ix3 0 i j) = f (ix3 h i j) := by
  show f ((BM1.access (row7 h.isLt)).emb _) = _
  congr 1; funext a; apply Fin.ext
  fin_cases a
  · show h.val + 1 * 0 = h.val; omega
  · show 0 + 1 * i.val = i.val; omega
  · show 0 + 1 * j.val = j.val; omega
theorem rd2_ix (f : B2 Ideal) (h : Fin 8) (i : Fin 1024) (j : Fin 128) : rd2 f (ix3 h i j) = f (ix3 h i j) := by
  show f ((BM2.access all3).emb _) = _
  congr 1; funext a; apply Fin.ext
  fin_cases a
  · show 0 + 1 * h.val = h.val; omega
  · show 0 + 1 * i.val = i.val; omega
  · show 0 + 1 * j.val = j.val; omega
theorem rd3_ix (f : B3 Ideal) (h : Fin 8) (i : Fin 1024) (j : Fin 128) : rd3 f (ix3 h i j) = f (ix3 h i j) := by
  show f ((BM3.access all3).emb _) = _
  congr 1; funext a; apply Fin.ext
  fin_cases a
  · show 0 + 1 * h.val = h.val; omega
  · show 0 + 1 * i.val = i.val; omega
  · show 0 + 1 * j.val = j.val; omega
theorem rd4_ix (h : Fin 8) (f : B4 Ideal) (i : Fin 128) (j : Fin 1024) : rd4 h.isLt f (ix3 0 i j) = f (ix3 h i j) := by
  show f ((BM4.access (row4 h.isLt)).emb _) = _
  congr 1; funext a; apply Fin.ext
  fin_cases a
  · show h.val + 1 * 0 = h.val; omega
  · show 0 + 1 * i.val = i.val; omega
  · show 0 + 1 * j.val = j.val; omega

/-- What a device holds in the slot of step `c`: below the middle what one ring brought, above it the other's. -/
theorem rdKV_ix (pc : Dev nD → Piece Ideal) (d : Dev nD) (c : ℕ) (s : Fin 3) (g : Fin 16) (r : Fin 1024) (e : Fin 128) :
    rdKV s g.isLt (kvAt pc d c) (ix4 0 0 r e) = pc (own (side r) c d) (ix3 g r e) := by
  have hx : (kvM.access (row6 s g.isLt)).emb (ix4 0 0 r e : S1x1x1024x128.Idx) = (ix4 s g r e : S3x16x1024x128.Idx) := by
    funext a; apply Fin.ext
    fin_cases a
    · show s.val + 1 * 0 = s.val; omega
    · show g.val + 1 * 0 = g.val; omega
    · show 0 + 1 * r.val = r.val; omega
    · show 0 + 1 * e.val = e.val; omega
  have hd : drop (ix4 s g r e : S3x16x1024x128.Idx) = ix3 g r e := by funext a; fin_cases a <;> rfl
  show kvAt pc d c ((kvM.access (row6 s g.isLt)).emb _) = _
  rw [hx]
  show (if r.val < 512 then pc (own 0 c d) (drop _) else pc (own 1 c d) (drop _)) = _
  rw [hd]
  by_cases h : r.val < 512
  · rw [if_pos h, show side r = 0 from if_pos h]
  · rw [if_neg h, show side r = 1 from if_neg h]

/-! ## Arithmetic -/

theorem scale_named : (Named.named κ "scale_qs" 0x3B4D4012#32 : Ideal .f32) = ((11863283 / 3787922432 : ℝ) : EReal) := rfl
theorem inv_named : (Named.named κ "inv_qs" 0x3D112245#32 : Ideal .f32) = ((131072 / 3699143 : ℝ) : EReal) := rfl

theorem query_at (x : Vec Ideal S1024x1024 .bf16) (w : Vec Ideal S8x1024x128 .bf16) (h : Fin 8) (j : Fin 1024) (e : Fin 128) :
    qFin x w (ix3 h j e) = (∑ k : Fin 1024, x (ix2 j k) * w (ix3 h k e)) * ((11863283 / 3787922432 : ℝ) : EReal) := by
  show k0_pay30 (rd0 x) (rd1 h.isLt w) (at1 j e) = _
  rw [at1_eq, ← scale_named]
  pointwise [k0_pay30]
  simp only [rd0_ix, rd1_ix]

/-- The stored byte, read back. -/
theorem key_at (kb : B2 Ideal) (vb : B3 Ideal) (h : Fin 8) (r : Fin 1024) (e : Fin 128) (φ : FTy) :
    FloatOps.sitofp (F := Ideal) φ (pieceOf kb vb (ix3 ⟨h.val, by omega⟩ r e)) = qz (kb (ix3 h r e)) := by
  have h8 : h.val < 8 := h.isLt
  show FloatOps.sitofp (F := Ideal) φ (if hh : h.val < 8 then k0_pay26 (rd2 kb) (at8 ⟨h.val, hh⟩ r e) else _) = _
  rw [dif_pos h8, at8_eq, ← qz_byte φ .f32, ← rd2_ix kb h r e]
  pointwise [k0_pay26, qz]
theorem val_at (kb : B2 Ideal) (vb : B3 Ideal) (h : Fin 8) (r : Fin 1024) (e : Fin 128) (φ : FTy) :
    FloatOps.sitofp (F := Ideal) φ (pieceOf kb vb (ix3 ⟨h.val + 8, by omega⟩ r e)) = qz (vb (ix3 h r e)) := by
  have h8 : ¬ h.val + 8 < 8 := by omega
  show FloatOps.sitofp (F := Ideal) φ (if hh : h.val + 8 < 8 then _ else k0_pay27 (rd3 vb) (at8 ⟨h.val + 8 - 8, _⟩ r e)) = _
  rw [dif_neg h8, at8_eq, ← qz_byte φ .f32, ← rd3_ix vb h r e]
  have e8 : (⟨h.val + 8 - 8, by omega⟩ : Fin 8) = h := Fin.ext (by show h.val + 8 - 8 = h.val; omega)
  rw [e8]
  pointwise [k0_pay27, qz]

/-- One weight. -/
theorem weight_at (m : Mask) (q : Vec Ideal S1x1024x128 .bf16) (kv : Vec Ideal S1x1x1024x128 .i8) (j r : Fin 1024) :
    k0_pay2 m q kv (ix2 j r) = if m (ix2 j r) = 1#1 then
      Ideal.exp (∑ e : Fin 128, q (ix3 0 j e) * FloatOps.sitofp (F := Ideal) .bf16 (kv (ix4 0 0 r e))) else 0 := by
  pointwise [k0_pay2]
  rfl
theorem lsum_at (m : Mask) (q : Vec Ideal S1x1024x128 .bf16) (kv : Vec Ideal S1x1x1024x128 .i8) (l : Vec Ideal S1x1024x1 .f32) (j : Fin 1024) :
    k0_pay3 m q kv l (ix3 0 j 0) = l (ix3 0 j 0) + ∑ r : Fin 1024, k0_pay2 m q kv (ix2 j r) := by
  pointwise [k0_pay3]
theorem asum_at (m : Mask) (q : Vec Ideal S1x1024x128 .bf16) (kv u : Vec Ideal S1x1x1024x128 .i8) (a : Vec Ideal S1x1024x128 .f32)
    (j : Fin 1024) (e : Fin 128) :
    k0_pay4 m q kv a u (ix3 0 j e)
      = a (ix3 0 j e) + ∑ r : Fin 1024, k0_pay2 m q kv (ix2 j r) * FloatOps.sitofp (F := Ideal) .bf16 (u (ix4 0 0 r e)) := by
  pointwise [k0_pay4]
theorem out_at (a : Vec Ideal S1x1024x128 .f32) (l : Vec Ideal S1x1024x1 .f32) (o : Vec Ideal S1024x1024 .f32) (w : Vec Ideal S1x128x1024 .bf16)
    (j n : Fin 1024) :
    k0_pay1 a l o w (ix2 j n) = o (ix2 j n)
      + ∑ e : Fin 128, Ideal.div (a (ix3 0 j e) * ((131072 / 3699143 : ℝ) : EReal)) (l (ix3 0 j 0)) * w (ix3 0 e n) := by
  rw [← inv_named]
  pointwise [k0_pay1]
theorem clear_o (j n : Fin 1024) : k0_pay61 (F := Ideal) (ix2 j n) = 0 := by pointwise [k0_pay61]
theorem clear_l (h : Fin 8) (j : Fin 1024) : k0_pay33 (F := Ideal) (ix3 h j 0) = 0 := by pointwise [k0_pay33]
theorem clear_a (h : Fin 8) (j : Fin 1024) (e : Fin 128) : k0_pay32 (k0_pay31 (F := Ideal)) (ix3 h j e) = 0 := by pointwise [k0_pay32, k0_pay31]

end Cert.KernelIdealProof

end
-- ==== Proof.KernelIdealValue.lean ====
/-
  The kernel's result over the extended reals in closed form: the running sums are sums over all the pieces, in whichever order the two
  rings brought them, and the output is the sum over the heads.
-/
module

public import proofs.«01_k».proof.Proof.KernelIdealReads

@[expose] public section

set_option maxRecDepth 16384

noncomputable section

namespace Cert.KernelIdealProof

open Cert.KernelIdeal Cert.KernelIdeal.Gen Cert.Quant
open Idealize.ShloMosaic

/-! ## All pieces, in ring order -/

theorem own_bij (b : Fin 2) (d : Dev nD) : Function.Bijective (fun c : Fin 8 => own b c.val d) := by
  revert b d; decide

/-- The sum over steps and places is the sum over devices and places. -/
theorem ring_sum (d : Dev nD) (f : Fin 8 → Fin 1024 → EReal) :
    (∑ c ∈ Finset.range 8, ∑ r : Fin 1024, f (own (side r) c d) r) = ∑ o : Fin 8, ∑ r : Fin 1024, f o r := by
  rw [Finset.sum_range, Finset.sum_comm, Finset.sum_comm (s := (Finset.univ : Finset (Fin 8)))]
  refine Finset.sum_congr rfl fun r _ => ?_
  exact (own_bij (side r) d).sum_comp (fun o => f o r)

/-- A buffer's contents as the vector of its shape. -/
abbrev asV (s : Shape) (e : EltTy) (v : Vec Ideal s e) : Vec Ideal s e := v

/-! ## The running sums -/

variable (pc : Dev nD → Piece Ideal) (d : Dev nD) (x : B0 Ideal) (w : B1 Ideal)

/-- The weight of key `r` of piece `o` in row `j`. -/
def wgt (h : Fin 8) (j : Fin 1024) (o : Fin 8) (r : Fin 1024) : EReal :=
  if Sees (d.val * 16 + j.val / 64) (o.val * 16 + r.val / 64) then
    Ideal.exp (∑ e : Fin 128, asV S8x1024x128 .bf16 (qFin x w) (ix3 h j e)
      * FloatOps.sitofp (F := Ideal) .bf16 (pc o (ix3 ⟨h.val, by omega⟩ r e))) else 0

theorem weight_step (c : ℕ) (hc : c < 8) (h : Fin 8) (j r : Fin 1024) :
    k0_pay2 (msk d c) (rdQ h.isLt (qFin x w)) (rdKV (sl c) (Nat.lt_of_lt_of_le h.isLt (by decide)) (kvAt pc d c)) (ix2 j r)
      = wgt pc d x w h j (own (side r) c d) r := by
  rw [weight_at]
  unfold wgt
  have hm := msk_at d ⟨c, hc⟩ j r
  have hk : ∀ e : Fin 128, rdKV (sl c) (Nat.lt_of_lt_of_le h.isLt (by decide)) (kvAt pc d c) (ix4 0 0 r e)
      = pc (own (side r) c d) (ix3 ⟨h.val, by omega⟩ r e) := fun e => rdKV_ix pc d c (sl c) ⟨h.val, by omega⟩ r e
  simp only [rdQ_ix, hk]
  rw [hm]
  by_cases hs : Sees (d.val * 16 + j.val / 64) ((own (side r) c d).val * 16 + r.val / 64)
  · rw [if_pos hs, decide_eq_true hs]; rfl
  · rw [if_neg hs, decide_eq_false hs]; rfl

theorem lFin_at (h : Fin 8) (j : Fin 1024) : ∀ c, c ≤ 8 →
    asV S8x1024x1 .f32 (lFin pc d x w c) (ix3 h j 0) = ∑ n ∈ Finset.range c, ∑ r : Fin 1024, wgt pc d x w h j (own (side r) n d) r := by
  intro c
  induction c with
  | zero => intro _; rw [Finset.range_zero, Finset.sum_empty]; exact clear_l h j
  | succ c ih =>
    intro hc
    rw [Finset.sum_range_succ, ← ih (by omega), lFin]
    refine ((lAfter_at _ _ _ _ _ 8 (le_refl _) (ix3 h j 0)).trans (if_pos (show h.val < 8 from h.isLt))).trans ?_
    show k0_pay3 _ _ _ _ (at1' j) = _
    rw [at1'_eq, lsum_at]
    refine congrArg₂ (· + ·) (rdL_ix h _ j) (Finset.sum_congr rfl fun r _ => ?_)
    exact weight_step pc d x w c (by omega) h j r

theorem aFin_at (h : Fin 8) (j : Fin 1024) (e : Fin 128) : ∀ c, c ≤ 8 →
    asV S8x1024x128 .f32 (aFin pc d x w c) (ix3 h j e) = ∑ n ∈ Finset.range c, ∑ r : Fin 1024,
      wgt pc d x w h j (own (side r) n d) r
        * FloatOps.sitofp (F := Ideal) .bf16 (pc (own (side r) n d) (ix3 ⟨h.val + 8, by omega⟩ r e)) := by
  intro c
  induction c with
  | zero => intro _; rw [Finset.range_zero, Finset.sum_empty]; exact clear_a h j e
  | succ c ih =>
    intro hc
    rw [Finset.sum_range_succ, ← ih (by omega), aFin]
    refine ((aAfter_at _ _ _ _ _ 8 (le_refl _) (ix3 h j e)).trans (if_pos (show h.val < 8 from h.isLt))).trans ?_
    show k0_pay4 _ _ _ _ _ (at1 j e) = _
    rw [at1_eq, asum_at]
    refine congrArg₂ (· + ·) (rdA_ix h _ j e) (Finset.sum_congr rfl fun r _ => ?_)
    exact congrArg₂ (· * ·) (weight_step pc d x w c (by omega) h j r)
      (congrArg _ (rdKV_ix pc d c (sl c) ⟨h.val + 8, by omega⟩ r e))

/-! ## The output -/

theorem oAfter_at (a : ABuf Ideal) (l : LBuf Ideal) (wo : B4 Ideal) (j n : Fin 1024) : ∀ k (hk : k ≤ 8),
    asV S1024x1024 .f32 (oAfter a l wo (k0_pay61 (F := Ideal)) k) (ix2 j n) = ∑ h : Fin k, ∑ e : Fin 128,
      Ideal.div (asV S8x1024x128 .f32 (a) (ix3 (h.castLE hk) j e) * ((131072 / 3699143 : ℝ) : EReal))
        (asV S8x1024x1 .f32 (l) (ix3 (h.castLE hk) j 0)) * asV S8x128x1024 .bf16 (wo) (ix3 (h.castLE hk) e n) := by
  intro k
  induction k with
  | zero => intro _; rw [Fin.sum_univ_zero]; exact clear_o j n
  | succ k ih =>
    intro hk
    have hk8 : k < 8 := by omega
    rw [Fin.sum_univ_castSucc]
    have hi := ih (by omega)
    rw [oAfter, dif_pos hk8, headO, owrite]
    refine (out_at _ _ _ _ j n).trans ?_
    have er := rd5_ix (oAfter a l wo (k0_pay61 (F := Ideal)) k) j n
    refine congrArg₂ (· + ·) (er.trans hi) (Finset.sum_congr rfl fun e _ => ?_)
    have ea := rdA_ix ⟨k, hk8⟩ a j e
    have el := rdL_ix ⟨k, hk8⟩ l j
    have ew := rd4_ix ⟨k, hk8⟩ wo e n
    rw [ea, el, ew]
    rfl

/-- One device's output: over the heads, over the columns of a head, the weighted values over the weights, times the output matrix. -/
theorem oFin_at (wo : B4 Ideal) (j n : Fin 1024) :
    asV S1024x1024 .f32 (oFin pc d x w wo) (ix2 j n) = ∑ h : Fin 8, ∑ e : Fin 128,
      Ideal.div ((∑ o : Fin 8, ∑ r : Fin 1024, wgt pc d x w h j o r
          * FloatOps.sitofp (F := Ideal) .bf16 (pc o (ix3 ⟨h.val + 8, by omega⟩ r e))) * ((131072 / 3699143 : ℝ) : EReal))
        (∑ o : Fin 8, ∑ r : Fin 1024, wgt pc d x w h j o r) * asV S8x128x1024 .bf16 (wo) (ix3 h e n) := by
  unfold oFin
  rw [oAfter_at _ _ _ j n 8 (le_refl _)]
  refine Finset.sum_congr rfl fun h _ => Finset.sum_congr rfl fun e _ => ?_
  show Ideal.div (asV S8x1024x128 .f32 (aFin pc d x w 8) (ix3 h j e) * _)
    (asV S8x1024x1 .f32 (lFin pc d x w 8) (ix3 h j 0)) * asV S8x128x1024 .bf16 (wo) (ix3 h e n) = _
  rw [aFin_at pc d x w h j e 8 (le_refl _), lFin_at pc d x w h j 8 (le_refl _), ring_sum d (fun o r => wgt pc d x w h j o r),
    ring_sum d (fun o r => wgt pc d x w h j o r * FloatOps.sitofp (F := Ideal) .bf16 (pc o (ix3 ⟨h.val + 8, by omega⟩ r e)))]

end Cert.KernelIdealProof

end
-- ==== Proof.KernelIdealArgs.lean ====
/-
  What the kernel reads and what it leaves, as entries of the arguments and of the result: the host operations around it reshape,
  transpose and convert.
-/
module

public import proofs.«01_k».proof.Proof.KernelIdealLaunch
public import Idealize.ShloMosaic.Lib.Pointwise

@[expose] public section

set_option maxRecDepth 16384

noncomputable section

namespace Cert.KernelIdealProof

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The arguments on a device. -/
abbrev arg0 : FVec Ideal S1x1024x1024 .f32 := m ((c : Thread nD τ).loc main_arg0)
abbrev arg1 : FVec Ideal S1024x1024 .f32 := m ((c : Thread nD τ).loc main_arg1)
abbrev arg2 : FVec Ideal S1x1024x8x128 .f32 := m ((c : Thread nD τ).loc main_arg2)
abbrev arg3 : FVec Ideal S1x1024x8x128 .f32 := m ((c : Thread nD τ).loc main_arg3)
abbrev arg4 : FVec Ideal S1024x1024 .f32 := m ((c : Thread nD τ).loc main_arg4)

/-! ## The blocks read are whole arrays -/

theorem emb0_id (i : S1024x1024.Idx) : ((cfg0.win (0 : Fin 6)).blk t0_0).view.emb i = i := by
  funext a; apply Fin.ext
  fin_cases a
  · show 0 * 1024 + 1 * (i 0).val = (i 0).val; omega
  · show 0 * 1024 + 1 * (i 1).val = (i 1).val; omega
theorem inX_eq : inX m c = StableHlo.after hostOps0 (Vm m c) (Proc.devRef .tc main_v2) := by
  rw [← V0_eq]
  funext i
  exact congrArg (V m c main_v2) (emb0_id i)
theorem emb1_id (i : S8x1024x128.Idx) : ((cfg0.win (1 : Fin 6)).blk t0_0).view.emb i = i := by
  funext a; apply Fin.ext
  fin_cases a
  · show 0 * 8 + 1 * (i 0).val = (i 0).val; omega
  · show 0 * 1024 + 1 * (i 1).val = (i 1).val; omega
  · show 0 * 128 + 1 * (i 2).val = (i 2).val; omega
theorem inW_eq : inW m c = StableHlo.after hostOps0 (Vm m c) (Proc.devRef .tc main_v5) := by
  rw [← V0_eq]
  funext i
  exact congrArg (V m c main_v5) (emb1_id i)
theorem emb2_id (i : S8x1024x128.Idx) : ((cfg0.win (2 : Fin 6)).blk t0_0).view.emb i = i := by
  funext a; apply Fin.ext
  fin_cases a
  · show 0 * 8 + 1 * (i 0).val = (i 0).val; omega
  · show 0 * 1024 + 1 * (i 1).val = (i 1).val; omega
  · show 0 * 128 + 1 * (i 2).val = (i 2).val; omega
theorem inK_eq : inK m c = StableHlo.after hostOps0 (Vm m c) (Proc.devRef .tc main_v8) := by
  rw [← V0_eq]
  funext i
  exact congrArg (V m c main_v8) (emb2_id i)
theorem emb3_id (i : S8x1024x128.Idx) : ((cfg0.win (3 : Fin 6)).blk t0_0).view.emb i = i := by
  funext a; apply Fin.ext
  fin_cases a
  · show 0 * 8 + 1 * (i 0).val = (i 0).val; omega
  · show 0 * 1024 + 1 * (i 1).val = (i 1).val; omega
  · show 0 * 128 + 1 * (i 2).val = (i 2).val; omega
theorem inV_eq : inV m c = StableHlo.after hostOps0 (Vm m c) (Proc.devRef .tc main_v11) := by
  rw [← V0_eq]
  funext i
  exact congrArg (V m c main_v11) (emb3_id i)
theorem emb4_id (i : S8x128x1024.Idx) : ((cfg0.win (4 : Fin 6)).blk t0_0).view.emb i = i := by
  funext a; apply Fin.ext
  fin_cases a
  · show 0 * 8 + 1 * (i 0).val = (i 0).val; omega
  · show 0 * 128 + 1 * (i 1).val = (i 1).val; omega
  · show 0 * 1024 + 1 * (i 2).val = (i 2).val; omega
theorem inO_eq : inO m c = StableHlo.after hostOps0 (Vm m c) (Proc.devRef .tc main_v13) := by
  rw [← V0_eq]
  funext i
  exact congrArg (V m c main_v13) (emb4_id i)

/-! ## Their entries -/

theorem x_at (j k : Fin 1024) : (inX m c : FVec Ideal S1024x1024 .bf16) (ix2 j k) = arg0 m c (ix3 0 j k) := by
  rw [inX_eq]
  unfold hostOps0
  after_results
  pointwise []
theorem w_at (h : Fin 8) (k : Fin 1024) (e : Fin 128) :
    (inW m c : FVec Ideal S8x1024x128 .bf16) (ix3 h k e) = arg1 m c (ix2 k ⟨h.val * 128 + e.val, by omega⟩) := by
  rw [inW_eq]
  unfold hostOps0
  after_results
  pointwise []
theorem k_at (h : Fin 8) (r : Fin 1024) (e : Fin 128) :
    (inK m c : FVec Ideal S8x1024x128 .bf16) (ix3 h r e) = arg2 m c (ix4 0 r h e) := by
  rw [inK_eq]
  unfold hostOps0
  after_results
  pointwise []
theorem v_at (h : Fin 8) (r : Fin 1024) (e : Fin 128) :
    (inV m c : FVec Ideal S8x1024x128 .bf16) (ix3 h r e) = arg3 m c (ix4 0 r h e) := by
  rw [inV_eq]
  unfold hostOps0
  after_results
  pointwise []
theorem wo_at (h : Fin 8) (e : Fin 128) (n : Fin 1024) :
    (inO m c : FVec Ideal S8x128x1024 .bf16) (ix3 h e n) = arg4 m c (ix2 ⟨h.val * 128 + e.val, by omega⟩ n) := by
  rw [inO_eq]
  unfold hostOps0
  after_results
  pointwise []

/-- The result. -/
theorem result_at (j n : Fin 1024) : (V₃ m c (Proc.devRef .tc main_v15) : FVec Ideal S1x1024x1024 .f32) (ix3 0 j n)
    = (oFin (pcs m) c (inX m c) (inW m c) (inO m c) : FVec Ideal S1024x1024 .f32) (ix2 j n) := by
  unfold V₃ hostOps1
  after_results
  unfold V₂
  rw [Function.update_self]
  unfold res
  generalize oFin (pcs m) c (inX m c) (inW m c) (inO m c) = o
  pointwise []

end Cert.KernelIdealProof

end
-- ==== Proof.Softmax.lean ====
/-
  Masked attention weights over the extended reals: dividing the weighted sum by the total weight is the sum under normalised weights,
  whatever common shift is taken off the scores.
-/
module

public import proofs.«01_k».proof.Proof.Quant

@[expose] public section

noncomputable section

namespace Cert.Softmax

open Idealize.ShloMosaic Cert.Quant

variable {J : Type} [Fintype J] (M : J → Prop) [DecidablePred M] (S V : J → ℝ)

/-- A key's weight. -/
def wt (j : J) : ℝ := if M j then Real.exp (S j) else 0

theorem wt_coe (j : J) : (if M j then Ideal.exp ((S j : ℝ) : EReal) else 0) = ((wt M S j : ℝ) : EReal) := by
  unfold wt
  split
  · exact Ideal.exp_coe _
  · rfl

theorem total_pos (hM : ∃ j, M j) : 0 < ∑ j, wt M S j := by
  obtain ⟨j, hj⟩ := hM
  refine Finset.sum_pos' (fun i _ => ?_) ⟨j, Finset.mem_univ _, ?_⟩
  · unfold wt; split
    · exact (Real.exp_pos _).le
    · exact le_refl _
  · unfold wt; rw [if_pos hj]; exact Real.exp_pos _

/-- The score, `⊥` where masked out. -/
def sc (j : J) : EReal := if M j then ((S j : ℝ) : EReal) else ⊥

/-- The greatest score is a real. -/
theorem max_real (hM : ∃ j, M j) : ∃ m : ℝ, Finset.univ.fold max ⊥ (sc M S) = ((m : ℝ) : EReal) := by
  obtain ⟨j, hj⟩ := hM
  have h1 : Finset.univ.fold max ⊥ (sc M S) ≠ ⊥ := by
    intro h
    have h2 : sc M S j ≤ Finset.univ.fold max ⊥ (sc M S) := (Finset.le_fold_max _).2 (.inr ⟨j, Finset.mem_univ _, le_refl _⟩)
    rw [h, sc, if_pos hj] at h2
    exact EReal.coe_ne_bot _ (le_bot_iff.1 h2)
  have h3 : Finset.univ.fold max ⊥ (sc M S) ≠ ⊤ := by
    refine ne_of_lt ((Finset.fold_max_lt _).2 ⟨bot_lt_top, fun i _ => ?_⟩)
    unfold sc; split
    · exact EReal.coe_lt_top _
    · exact bot_lt_top
  exact ⟨_, (EReal.coe_toReal h3 h1).symm⟩

theorem shifted (m : ℝ) (j : J) : Ideal.exp (sc M S j - (m : EReal)) = ((wt M S j * Real.exp (-m) : ℝ) : EReal) := by
  unfold sc wt
  split
  · rw [← EReal.coe_sub]
    show ((Real.exp (S j - m) : ℝ) : EReal) = _
    rw [sub_eq_add_neg, Real.exp_add]
  · rw [EReal.bot_sub, zero_mul]
    rfl

variable (a : ℝ)

/-- The two ways to weigh the values. -/
theorem weigh (ha : a ≠ 0) (hM : ∃ j, M j) :
    Ideal.div ((∑ j, (if M j then Ideal.exp ((S j : ℝ) : EReal) else 0) * ((V j : ℝ) : EReal)) * ((a⁻¹ : ℝ) : EReal))
        (∑ j, if M j then Ideal.exp ((S j : ℝ) : EReal) else 0)
      = ∑ j, Ideal.div ((V j : ℝ) : EReal) (a : EReal)
          * Ideal.div (Ideal.exp (sc M S j - Finset.univ.fold max ⊥ (sc M S))) (∑ i, Ideal.exp (sc M S i - Finset.univ.fold max ⊥ (sc M S))) := by
  obtain ⟨m, hm⟩ := max_real M S hM
  have hp := total_pos M S hM
  have hz : ∑ j, wt M S j * Real.exp (-m) ≠ 0 := by
    rw [← Finset.sum_mul]
    exact (mul_pos hp (Real.exp_pos _)).ne'
  simp only [wt_coe, hm, shifted, ← EReal.coe_mul, sum_coe]
  rw [div_real hp.ne']
  simp only [div_real ha, div_real hz, ← EReal.coe_mul, sum_coe]
  congr 1
  rw [← Finset.sum_mul, Finset.sum_mul, Finset.sum_div]
  refine Finset.sum_congr rfl fun j _ => ?_
  have he := Real.exp_ne_zero (-m)
  have hs := hp.ne'
  field_simp

end Cert.Softmax

end
-- ==== Proof.Attention.lean ====
/-
  One row of the attention as a formula over the reals: the scores from the row's query and the quantised keys, the exponentials of those
  the row sees, the weighted quantised values over the sum of the weights. Both programs' arithmetic is brought to it.
-/
module

public import proofs.«01_k».proof.Proof.Softmax
public import proofs.«01_k».proof.Proof.Quant

@[expose] public section

noncomputable section

namespace Cert.Attention

open Idealize.ShloMosaic Cert.Quant

/-- A row of block `a` sees a key of block `b`. -/
abbrev Sees (a b : ℕ) : Prop := a = b ∨ b = 0 ∨ (a + b) % 3 = 0

/-! ## Sums by pieces -/

theorem sum_cut (a b : ℕ) (g : Fin (a * b) → EReal) (hb : ∀ (o : Fin a) (r : Fin b), o.val * b + r.val < a * b) :
    ∑ o : Fin a, ∑ r : Fin b, g ⟨o.val * b + r.val, hb o r⟩ = ∑ J : Fin (a * b), g J := by
  rw [← finProdFinEquiv.sum_comp, Fintype.sum_prod_type]
  refine Finset.sum_congr rfl fun o _ => Finset.sum_congr rfl fun r _ => congrArg g (Fin.ext ?_)
  show o.val * b + r.val = r.val + b * o.val
  rw [Nat.mul_comm, Nat.add_comm]

/-! ## A row -/

/-- The score of a key for a query. -/
def score (y : Fin 128 → ℝ) (k : Fin 128 → EReal) : ℝ := (∑ e, y e * qr (k e)) * (11863283 / 3787922432)

/-- The weighted values of a row of block `b` with query `y`. -/
def row (y : Fin 128 → ℝ) (b : ℕ) (k : Fin 8192 → Fin 128 → EReal) (v : Fin 8192 → EReal) : EReal :=
  Ideal.div ((∑ J : Fin 8192, (if Sees b (J.val / 64) then Ideal.exp ((score y (k J) : ℝ) : EReal) else 0) * (qr (v J) : EReal))
      * (((3699143 / 131072 : ℝ)⁻¹ : ℝ) : EReal))
    (∑ J : Fin 8192, if Sees b (J.val / 64) then Ideal.exp ((score y (k J) : ℝ) : EReal) else 0)

/-- The scale taken into the query. -/
theorem score_query (y : Fin 128 → ℝ) (k : Fin 128 → EReal) :
    (∑ e : Fin 128, ((y e : ℝ) : EReal) * ((11863283 / 3787922432 : ℝ) : EReal) * qz (k e)) = ((score y k : ℝ) : EReal) := by
  have h : ∀ e : Fin 128, ((y e : ℝ) : EReal) * ((11863283 / 3787922432 : ℝ) : EReal) * qz (k e)
      = ((y e * (11863283 / 3787922432) * qr (k e) : ℝ) : EReal) := fun e => by
    rw [qz_real, EReal.coe_mul, EReal.coe_mul]
  rw [Finset.sum_congr rfl fun e _ => h e, sum_coe]
  unfold score
  rw [Finset.sum_mul]
  exact congrArg _ (Finset.sum_congr rfl fun e _ => by ring)

/-- The keys scaled back, the scores scaled after. -/
theorem score_key (y : Fin 128 → ℝ) (k : Fin 128 → EReal) :
    (∑ e : Fin 128, ((y e : ℝ) : EReal) * Ideal.div (qz (k e)) (Ideal.ofBits .f32 0x41E1C71C#32)) * Ideal.ofBits .f32 0x3DB504F3#32
      = ((score y k : ℝ) : EReal) := by
  have h : ∀ e : Fin 128, ((y e : ℝ) : EReal) * Ideal.div (qz (k e)) (Ideal.ofBits .f32 0x41E1C71C#32)
      = ((y e * (qr (k e) / (3699143 / 131072)) : ℝ) : EReal) := fun e => by
    rw [qz_real, scale_bits, div_real (by norm_num), EReal.coe_mul]
  rw [Finset.sum_congr rfl fun e _ => h e, sum_coe, score_bits, ← EReal.coe_mul]
  unfold score
  rw [Finset.sum_mul, Finset.sum_mul]
  refine congrArg _ (Finset.sum_congr rfl fun e _ => ?_)
  ring

/-- The row as a maximum-shifted softmax over the scaled-back values. -/
theorem row_softmax (y : Fin 128 → ℝ) (b : ℕ) (hb : b < 128) (k : Fin 8192 → Fin 128 → EReal) (v : Fin 8192 → EReal)
    (s : Fin 8192 → EReal) (hs : s = fun J => if Sees b (J.val / 64) then ((score y (k J) : ℝ) : EReal) else ⊥) :
    (∑ J : Fin 8192, Ideal.div (qz (v J)) (Ideal.ofBits .f32 0x41E1C71C#32)
      * Ideal.div (Ideal.exp (s J - Finset.univ.fold max ⊥ s)) (∑ I : Fin 8192, Ideal.exp (s I - Finset.univ.fold max ⊥ s)))
      = row y b k v := by
  subst hs
  have h := Softmax.weigh (fun J : Fin 8192 => Sees b (J.val / 64)) (fun J => score y (k J)) (fun J => qr (v J)) (3699143 / 131072)
    (by norm_num) ⟨⟨b * 64, by omega⟩, Or.inl (by show b = b * 64 / 64; omega)⟩
  unfold row
  rw [h, scale_bits]
  refine Finset.sum_congr rfl fun J _ => ?_
  rw [qz_real]
  rfl

end Cert.Attention

end
-- ==== Proof.KernelIdealResult.lean ====
/-
  The kernel's result, row by row, as the attention formula over the whole arrays of which each device holds a block.
-/
module

public import proofs.«01_k».proof.Proof.KernelIdealValue
public import proofs.«01_k».proof.Proof.KernelIdealArgs
public import proofs.«01_k».proof.Proof.Attention

@[expose] public section

set_option maxRecDepth 16384

noncomputable section

namespace Cert.KernelIdealProof

open Cert.KernelIdeal Cert.KernelIdeal.Gen Cert.Quant Cert.Attention
open Idealize.ShloMosaic Idealize.ShloMosaic.TcCoe

/-- Row `r` of device `o`. -/
def pos (o : Fin 8) (r : Fin 1024) : Fin 8192 := ⟨o.val * 1024 + r.val, by omega⟩

variable (m : (ℓ : Loc nD τ sig) → Buf (Elt Ideal) ℓ)
  (K Vv : Fin 8192 → Fin 8 → Fin 128 → EReal)
  (hK : ∀ (o : Dev nD) (r : Fin 1024) (h : Fin 8) (e : Fin 128), arg2 m o (ix4 0 r h e) = K (pos o r) h e)
  (hV : ∀ (o : Dev nD) (r : Fin 1024) (h : Fin 8) (e : Fin 128), arg3 m o (ix4 0 r h e) = Vv (pos o r) h e)

include hK in
theorem key_pos (o : Dev nD) (h : Fin 8) (r : Fin 1024) (e : Fin 128) :
    FloatOps.sitofp (F := Ideal) .bf16 (pcs m o (ix3 ⟨h.val, by omega⟩ r e)) = qz (K (pos o r) h e) := by
  rw [← hK, ← k_at]
  exact key_at (inK m o) (inV m o) h r e .bf16
include hV in
theorem val_pos (o : Dev nD) (h : Fin 8) (r : Fin 1024) (e : Fin 128) :
    FloatOps.sitofp (F := Ideal) .bf16 (pcs m o (ix3 ⟨h.val + 8, by omega⟩ r e)) = qz (Vv (pos o r) h e) := by
  rw [← hV, ← v_at]
  exact val_at (inK m o) (inV m o) h r e .bf16

/-- The query of a row. -/
theorem query_real (c : Dev nD) (j : Fin 1024) (h : Fin 8) (y : Fin 128 → ℝ)
    (hy : ∀ e, (∑ k : Fin 1024, arg0 m c (ix3 0 j k) * arg1 m c (ix2 k ⟨h.val * 128 + e.val, by omega⟩)) = ((y e : ℝ) : EReal)) (e : Fin 128) :
    asV S8x1024x128 .bf16 (qFin (inX m c) (inW m c)) (ix3 h j e) = ((y e : ℝ) : EReal) * ((11863283 / 3787922432 : ℝ) : EReal) := by
  refine (query_at (inX m c) (inW m c) h j e).trans ?_
  rw [← hy e]
  refine congrArg (· * _) (Finset.sum_congr rfl fun k _ => ?_)
  rw [← x_at, ← w_at]

include hK in
/-- A weight, by the key's place in the whole array. -/
theorem wgt_pos (c : Dev nD) (j : Fin 1024) (h : Fin 8) (y : Fin 128 → ℝ)
    (hy : ∀ e, (∑ k : Fin 1024, arg0 m c (ix3 0 j k) * arg1 m c (ix2 k ⟨h.val * 128 + e.val, by omega⟩)) = ((y e : ℝ) : EReal))
    (o : Fin 8) (r : Fin 1024) :
    wgt (pcs m) c (inX m c) (inW m c) h j o r = if Attention.Sees ((pos c j).val / 64) ((pos o r).val / 64) then
      Ideal.exp ((score y (K (pos o r) h) : ℝ) : EReal) else 0 := by
  have e1 : (pos c j).val / 64 = c.val * 16 + j.val / 64 := by
    show (c.val * 1024 + j.val) / 64 = _; omega
  have e2 : (pos o r).val / 64 = o.val * 16 + r.val / 64 := by
    show (o.val * 1024 + r.val) / 64 = _; omega
  have e3 : (∑ e : Fin 128, asV S8x1024x128 .bf16 (qFin (inX m c) (inW m c)) (ix3 h j e)
      * FloatOps.sitofp (F := Ideal) .bf16 (pcs m o (ix3 ⟨h.val, by omega⟩ r e))) = ((score y (K (pos o r) h) : ℝ) : EReal) := by
    rw [← score_query]
    refine Finset.sum_congr rfl fun e _ => ?_
    rw [query_real m c j h y hy e, key_pos m K hK o h r e]
  unfold wgt
  rw [e1, e2, e3]

include hK hV in
/-- The result at row `j` of device `c`, column `n`. -/
theorem result_row (c : Dev nD) (j n : Fin 1024) (y : Fin 8 → Fin 128 → ℝ)
    (hy : ∀ h e, (∑ k : Fin 1024, arg0 m c (ix3 0 j k) * arg1 m c (ix2 k ⟨h.val * 128 + e.val, by omega⟩)) = ((y h e : ℝ) : EReal)) :
    (V₃ m c (Proc.devRef .tc main_v15) : FVec Ideal S1x1024x1024 .f32) (ix3 0 j n) = ∑ h : Fin 8, ∑ e : Fin 128,
      row (y h) ((pos c j).val / 64) (fun J => K J h) (fun J => Vv J h e) * arg4 m c (ix2 ⟨h.val * 128 + e.val, by omega⟩ n) := by
  rw [result_at]
  refine (oFin_at (pcs m) c (inX m c) (inW m c) (inO m c) j n).trans ?_
  refine Finset.sum_congr rfl fun h _ => Finset.sum_congr rfl fun e _ => ?_
  have hw := fun o r => wgt_pos m K hK c j h (y h) (hy h) o r
  have hn : (∑ o : Fin 8, ∑ r : Fin 1024, wgt (pcs m) c (inX m c) (inW m c) h j o r)
      = ∑ J : Fin 8192, if Attention.Sees ((pos c j).val / 64) (J.val / 64) then Ideal.exp ((score (y h) (K J h) : ℝ) : EReal) else 0 := by
    refine (Finset.sum_congr rfl fun o _ => Finset.sum_congr rfl fun r _ => hw o r).trans ?_
    exact sum_cut 8 1024 (fun J : Fin 8192 => if Attention.Sees ((pos c j).val / 64) (J.val / 64) then
      Ideal.exp ((score (y h) (K J h) : ℝ) : EReal) else 0) (fun o r => by omega)
  have ha : (∑ o : Fin 8, ∑ r : Fin 1024, wgt (pcs m) c (inX m c) (inW m c) h j o r
        * FloatOps.sitofp (F := Ideal) .bf16 (pcs m o (ix3 ⟨h.val + 8, by omega⟩ r e)))
      = ∑ J : Fin 8192, (if Attention.Sees ((pos c j).val / 64) (J.val / 64) then Ideal.exp ((score (y h) (K J h) : ℝ) : EReal) else 0)
        * (qr (Vv J h e) : EReal) := by
    refine (Finset.sum_congr rfl fun o _ => Finset.sum_congr rfl fun r _ => ?_).trans
      (sum_cut 8 1024 (fun J : Fin 8192 => (if Attention.Sees ((pos c j).val / 64) (J.val / 64) then
        Ideal.exp ((score (y h) (K J h) : ℝ) : EReal) else 0) * (qr (Vv J h e) : EReal)) (fun o r => by omega))
    rw [hw o r, val_pos m Vv hV o h r e, qz_real]
    rfl
  rw [hn, ha]
  unfold row
  have hi : (((3699143 / 131072 : ℝ)⁻¹ : ℝ) : EReal) = ((131072 / 3699143 : ℝ) : EReal) := by congr 1; norm_num
  rw [hi]
  exact congrArg _ (wo_at m c h e n)

end Cert.KernelIdealProof

end
-- ==== Proof.ReferenceStages.lean ====
/-
  The reference's result, stage by stage: the quantised keys and values, the queries, the mask, the scores, the weights, the output.
-/
module

public import proofs.«01_k».proof.Proof.Gen.ReferenceIdeal.Run
public import proofs.«01_k».proof.Proof.Quant
public import Idealize.ShloMosaic.Lib.Pointwise
public import Idealize.ShloMosaic.Lib.Tactic.CleanTypes

@[expose] public section

set_option maxRecDepth 16384

noncomputable section

namespace Cert.ReferenceIdealProof

open Cert.ReferenceIdeal Cert.ReferenceIdeal.Gen Cert.ReferenceIdeal.Value Cert.Quant
open Idealize.ShloMosaic Idealize.ShloMosaic.TcCoe Idealize.SL.Sem Idealize.ShloMosaic.StableHlo

/-! ## Stages -/

/-- Keys or values through the quantiser and back. -/
def deq (k : FVec Ideal S1x8192x8x128 .f32) : FVec Ideal S1x8192x8x128 .f32 :=
  Host.divf (minimumf (broadcastInDim S1x8192x8x128 ![] bcast_S_S1x8192x8x128 (sitofp .f32 (constantI S_ 32 127#32)))
    (maximumf (broadcastInDim S1x8192x8x128 ![] bcast_S_S1x8192x8x128 (sitofp .f32 (constantI S_ 32 4294967169#32)))
      (Host.roundeven (mulf k (broadcastInDim S1x8192x8x128 ![] bcast_S_S1x8192x8x128 (constant S_ .f32 0x41E1C71C#32))))))
    (broadcastInDim S1x8192x8x128 ![] bcast_S_S1x8192x8x128 (constant S_ .f32 0x41E1C71C#32))

/-- The block a position lies in. -/
def blkW : Vec Ideal S8192 .i32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- The sum of the two blocks. -/
def sumW : Vec Ideal S8192x8192 .i32 :=
  addi (broadcastInDim S8192x8192 ![0, 1] bcast_S8192x1_S8192x8192_0_1 (broadcastInDim S8192x1 ![0] bcast_S8192_S8192x1_0 blkW))
    (broadcastInDim S8192x8192 ![0, 1] bcast_S1x8192_S8192x8192_0_1 (broadcastInDim S1x8192 ![1] bcast_S8192_S1x8192_1 blkW))

/-- The divisor three, one where it would be zero. -/
def threeW : Vec Ideal S_ .i32 :=
  select (cmpi .eq (id (constantI S_ 32 3#32)) (constantI S_ 32 0#32)) (constantI S_ 32 1#32) (id (constantI S_ 32 3#32))

/-- The remainder of that sum by three. -/
def remW : Vec Ideal S8192x8192 .i32 := Host.remsi sumW (broadcastInDim S8192x8192 ![] bcast_S_S8192x8192 threeW)

/-- Which keys a row sees. -/
def mskW : Vec Ideal S8192x8192 .i1 :=
  ori (ori (cmpi .eq
        (broadcastInDim S8192x8192 ![0, 1] bcast_S8192x1_S8192x8192_0_1 (broadcastInDim S8192x1 ![0] bcast_S8192_S8192x1_0 blkW))
        (broadcastInDim S8192x8192 ![0, 1] bcast_S1x8192_S8192x8192_0_1 (broadcastInDim S1x8192 ![1] bcast_S8192_S1x8192_1 blkW)))
      (broadcastInDim S8192x8192 ![0, 1] bcast_S1x8192_S8192x8192_0_1
        (cmpi .eq (broadcastInDim S1x8192 ![1] bcast_S8192_S1x8192_1 blkW) (broadcastInDim S1x8192 ![] bcast_S_S1x8192 (constantI S_ 32 0#32)))))
    (cmpi .eq (select (andi
          (cmpi .ne (cmpi .slt remW (broadcastInDim S8192x8192 ![] bcast_S_S8192x8192 (constantI S_ 32 0#32)))
            (broadcastInDim S8192x8192 ![] bcast_S_S8192x8192 (cmpi .slt threeW (constantI S_ 32 0#32))))
          (cmpi .ne remW (broadcastInDim S8192x8192 ![] bcast_S_S8192x8192 (constantI S_ 32 0#32))))
        (addi remW (broadcastInDim S8192x8192 ![] bcast_S_S8192x8192 threeW)) remW)
      (broadcastInDim S8192x8192 ![] bcast_S_S8192x8192 (constantI S_ 32 0#32)))

/-- Whether a row sees any key. -/
def keepW : Vec Ideal S8192 .i1 := Host.reduce IntOp.ori mskW (constantI S_ 1 0#1) reducesTo_S8192x8192_S8192_d1 h_S_

/-- The queries. -/
def qry (x : FVec Ideal S1x8192x1024 .f32) (w : FVec Ideal S1024x1024 .f32) : FVec Ideal S1x8192x8x128 .f32 :=
  shapeCast _ (Host.dotGeneral dot_S1x8192x1024_S1024x1024_S1x8192x1024_2_0_01_1_n_n none x w) shapeCasts_S1x8192x1024_S1x8192x8x128

/-- The scores. -/
def scr (q k : FVec Ideal S1x8192x8x128 .f32) : FVec Ideal S1x8x8192x8192 .f32 :=
  mulf (Host.dotGeneral dot_S1x8192x8x128_S1x8192x8x128_S1x8x8192x8192_3_3_1_1_02_02 none q k)
    (broadcastInDim S1x8x8192x8192 ![] bcast_S_S1x8x8192x8192 (constant S_ .f32 0x3DB504F3#32))

/-- The scores, minus infinity where a mask is off. -/
def cutOf (k : IVec S8192x8192 1) (s : FVec Ideal S1x8x8192x8192 .f32) : FVec Ideal S1x8x8192x8192 .f32 :=
  select (broadcastInDim S1x8x8192x8192 ![0, 1, 2, 3] bcast_S1x1x8192x8192_S1x8x8192x8192_0_1_2_3
      (broadcastInDim S1x1x8192x8192 ![2, 3] bcast_S8192x8192_S1x1x8192x8192_2_3 k)) s
    (broadcastInDim S1x8x8192x8192 ![] bcast_S_S1x8x8192x8192 (id (constant S_ .f32 0xFF800000#32)))

/-- The scores, minus infinity where the row does not see the key. -/
def cut (s : FVec Ideal S1x8x8192x8192 .f32) : FVec Ideal S1x8x8192x8192 .f32 := cutOf mskW s

/-- A row's largest score. -/
def top (s : FVec Ideal S1x8x8192x8192 .f32) : FVec Ideal S1x8x8192 .f32 :=
  Host.reduce FloatOps.maximumf s (constant S_ .f32 0xFF800000#32) reducesTo_S1x8x8192x8192_S1x8x8192_d3 h_S_

/-- The exponentials, a row's number taken off. -/
def exsOf (t : FVec Ideal S1x8x8192 .f32) (s : FVec Ideal S1x8x8192x8192 .f32) : FVec Ideal S1x8x8192x8192 .f32 :=
  Host.exp (subf s (broadcastInDim S1x8x8192x8192 ![0, 1, 2, 3] bcast_S1x8x8192x1_S1x8x8192x8192_0_1_2_3
    (broadcastInDim S1x8x8192x1 ![0, 1, 2] bcast_S1x8x8192_S1x8x8192x1_0_1_2 t)))

/-- The exponentials, the row's largest score taken off. -/
def exs (s : FVec Ideal S1x8x8192x8192 .f32) : FVec Ideal S1x8x8192x8192 .f32 := exsOf (top s) s

/-- The sum of a row. -/
def tot (e : FVec Ideal S1x8x8192x8192 .f32) : FVec Ideal S1x8x8192 .f32 :=
  Host.reduceAdd e (constant S_ .f32 0x00000000#32) reducesTo_S1x8x8192x8192_S1x8x8192_d3 h_S_

/-- The weights, from the rows kept and the rows' sums. -/
def wtsOf (keep : IVec S8192 1) (t : FVec Ideal S1x8x8192 .f32) (e : FVec Ideal S1x8x8192x8192 .f32) : FVec Ideal S1x8x8192x8192 .f32 :=
  select (broadcastInDim S1x8x8192x8192 ![0, 1, 2, 3] bcast_S1x1x8192x1_S1x8x8192x8192_0_1_2_3
      (broadcastInDim S1x1x8192x1 ![2] bcast_S8192_S1x1x8192x1_2 keep))
    (Host.divf e (broadcastInDim S1x8x8192x8192 ![0, 1, 2, 3] bcast_S1x8x8192x1_S1x8x8192x8192_0_1_2_3
      (select (broadcastInDim S1x8x8192x1 ![0, 1, 2, 3] bcast_S1x1x8192x1_S1x8x8192x1_0_1_2_3
          (broadcastInDim S1x1x8192x1 ![2] bcast_S8192_S1x1x8192x1_2 keep))
        (broadcastInDim S1x8x8192x1 ![0, 1, 2] bcast_S1x8x8192_S1x8x8192x1_0_1_2 t)
        (broadcastInDim S1x8x8192x1 ![] bcast_S_S1x8x8192x1 (id (constant S_ .f32 0x3F800000#32))))))
    (broadcastInDim S1x8x8192x8192 ![] bcast_S_S1x8x8192x8192 (id (constant S_ .f32 0x00000000#32)))

/-- The weights. -/
def wts (e : FVec Ideal S1x8x8192x8192 .f32) : FVec Ideal S1x8x8192x8192 .f32 := wtsOf keepW (tot e) e

/-- The weighted values, heads side by side. -/
def ctx (v : FVec Ideal S1x8192x8x128 .f32) (w : FVec Ideal S1x8x8192x8192 .f32) : FVec Ideal S1x8192x1024 .f32 :=
  shapeCast _ (transpose S1x8192x8x128 [0, 3, 1, 2] (Host.dotGeneral dot_S1x8192x8x128_S1x8x8192x8192_S1x8x128x8192_1_3_3_2_02_01 none v w)
    transposes_S1x8x128x8192_S1x8192x8x128_0_3_1_2) shapeCasts_S1x8192x8x128_S1x8192x1024

/-- The whole function. -/
def refOut (x : FVec Ideal S1x8192x1024 .f32) (w : FVec Ideal S1024x1024 .f32) (k v : FVec Ideal S1x8192x8x128 .f32) (wo : FVec Ideal S1024x1024 .f32) :
    FVec Ideal S1x8192x1024 .f32 :=
  Host.dotGeneral dot_S1x8192x1024_S1024x1024_S1x8192x1024_2_0_01_1_n_n none (ctx (deq v) (wts (exs (cut (scr (qry x w) (deq k)))))) wo

theorem result_eq (m : (ℓ : Loc nD τ sig) → Buf (Elt Ideal) ℓ) (c : Dev nD) :
    res_main_v56 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdealProof

end
-- ==== Proof.ReferenceMask.lean ====
/-
  The reference's mask in closed form: a row sees the keys of its own block, of the first block, and of every block whose number adds
  up with its own to a multiple of three.
-/
module

public import proofs.«01_k».proof.Proof.ReferenceStages
public import Idealize.ShloMosaic.Lib.Pointwise
public import Idealize.ShloMosaic.Lib.Routing.OpsOrder
public import Idealize.ShloMosaic.Lib.Tactic.CleanTypes

@[expose] public section

set_option maxRecDepth 16384

noncomputable section

namespace Cert.ReferenceIdealProof

open Idealize.ShloMosaic.Routing Cert.ReferenceIdeal Cert.ReferenceIdeal.Gen Cert.ReferenceIdeal.Value Cert.Quant
open Idealize.ShloMosaic Idealize.ShloMosaic.TcCoe Idealize.SL.Sem Idealize.ShloMosaic.StableHlo

/-! ## Blocks -/

theorem id64 : (id (constantI S_ 32 64#32) : IVec S_ 32) ix0 = 64#32 := rfl
theorem id3 : (id (constantI S_ 32 3#32) : IVec S_ 32) ix0 = 3#32 := rfl

/-- The sign of a word. -/
def sgnS (v : BitVec 32) : BitVec 32 := if v = 0 then 0 else if v.msb = true then -1 else 1
/-- The rounded-down quotient by 64 of a word, as the reference writes it. -/
def blkS (v : BitVec 32) : BitVec 32 :=
  Scalar.select
    (IntOp.andi
      (IntOp.cmpi .ne (sgnS v) (sgnS 64#32))
      (IntOp.cmpi .ne (IntOp.remsi .host v 64#32) 0#32))
    (IntOp.subi (IntOp.divsi .host v 64#32) 1#32) (IntOp.divsi .host v 64#32)
theorem blkS_eq : ∀ (a : Fin 128) (b : Fin 64), blkS (BitVec.ofNat 32 (a.val * 64 + b.val)) = BitVec.ofNat 32 a.val := by decide +kernel
theorem blkW_word (i : Fin 8192) : blkW (ix1 i) = blkS (BitVec.ofNat 32 i.val) := by
  pointwise [blkW]
  rw [id64]
  rfl
theorem blkW_at (i : Fin 8192) : blkW (ix1 i) = BitVec.ofNat 32 (i.val / 64) := by
  have h := blkS_eq ⟨i.val / 64, by omega⟩ ⟨i.val % 64, by omega⟩
  have e : i.val / 64 * 64 + i.val % 64 = i.val := by omega
  rw [blkW_word]
  exact (congrArg (fun n => blkS (BitVec.ofNat 32 n)) e.symm).trans h

/-! ## The mask -/

/-- The divisor. -/
def threeS : BitVec 32 := Scalar.select (IntOp.cmpi .eq 3#32 0#32) 1#32 3#32
/-- The remainder of a word by it, made to have its sign. -/
def remS (v : BitVec 32) : BitVec 32 :=
  Scalar.select
    (IntOp.andi (IntOp.cmpi .ne (IntOp.cmpi .slt (IntOp.remsi .host v threeS) 0#32) (IntOp.cmpi .slt threeS 0#32))
      (IntOp.cmpi .ne (IntOp.remsi .host v threeS) 0#32))
    (IntOp.addi (IntOp.remsi .host v threeS) threeS)
    (IntOp.remsi .host v threeS)
/-- The mask from the words of the two blocks. -/
def mskS (a b : BitVec 32) : BitVec 1 :=
  IntOp.ori (IntOp.ori (IntOp.cmpi .eq a b) (IntOp.cmpi .eq b 0#32)) (IntOp.cmpi .eq (remS (IntOp.addi a b)) 0#32)

theorem remS_eq : ∀ a : Fin 256, remS (BitVec.ofNat 32 a.val) = BitVec.ofNat 32 (a.val % 3) := by decide +kernel
theorem word_eq {a b : ℕ} (ha : a < 128) (hb : b < 128) : (BitVec.ofNat 32 a == BitVec.ofNat 32 b) = decide (a = b) := by
  rw [Bool.eq_iff_iff, beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact this
  · intro h; rw [h]
theorem mskS_eq (a b : Fin 128) : mskS (BitVec.ofNat 32 a.val) (BitVec.ofNat 32 b.val)
    = BitVec.ofBool (decide (a.val = b.val ∨ b.val = 0 ∨ (a.val + b.val) % 3 = 0)) := by
  have hs : IntOp.addi (BitVec.ofNat 32 a.val) (BitVec.ofNat 32 b.val) = BitVec.ofNat 32 (a.val + b.val) := (BitVec.ofNat_add _ _).symm
  unfold mskS
  rw [hs, remS_eq ⟨a.val + b.val, by omega⟩]
  show (BitVec.ofBool (BitVec.ofNat 32 a.val == BitVec.ofNat 32 b.val) ||| BitVec.ofBool (BitVec.ofNat 32 b.val == BitVec.ofNat 32 0))
    ||| BitVec.ofBool (BitVec.ofNat 32 ((a.val + b.val) % 3) == BitVec.ofNat 32 0) = _
  rw [word_eq a.isLt b.isLt, word_eq b.isLt (by omega), word_eq (by omega) (by omega), BitVec.ofBool_or_ofBool, BitVec.ofBool_or_ofBool]
  congr 1
  rw [Bool.eq_iff_iff]
  simp only [Bool.or_eq_true, decide_eq_true_eq]
  exact or_assoc

theorem mskW_at (i J : Fin 8192) : mskW (ix2 i J)
    = BitVec.ofBool (decide (i.val / 64 = J.val / 64 ∨ J.val / 64 = 0 ∨ (i.val / 64 + J.val / 64) % 3 = 0)) := by
  rw [← mskS_eq ⟨i.val / 64, by omega⟩ ⟨J.val / 64, by omega⟩]
  show _ = mskS (BitVec.ofNat 32 (i.val / 64)) (BitVec.ofNat 32 (J.val / 64))
  rw [← blkW_at, ← blkW_at]
  pointwise [mskW, remW, sumW, threeW]
  rw [id3]
  generalize blkW (ix1 i) = a
  generalize blkW (ix1 J) = b
  rfl
/-- A row sees its own block, so it keeps its weights. -/
theorem keepW_at (i : Fin 8192) : keepW (ix1 i) = 1#1 := by
  have h : mskW (ix2 i i) = 1#1 := by rw [mskW_at, decide_eq_true (Or.inl rfl)]; rfl
  pointwise [keepW]
  exact (fold_ori _ _).2 ⟨i, Finset.mem_univ _, h⟩

end Cert.ReferenceIdealProof

end
-- ==== Proof.ReferenceValue.lean ====
/-
  Each stage of the reference, read at an index.
-/
module

public import proofs.«01_k».proof.Proof.ReferenceStages
public import Idealize.ShloMosaic.Lib.Pointwise
public import Idealize.ShloMosaic.Lib.Tactic.CleanTypes

@[expose] public section

set_option maxRecDepth 16384

noncomputable section

namespace Cert.ReferenceIdealProof

open Cert.ReferenceIdeal Cert.ReferenceIdeal.Gen Cert.ReferenceIdeal.Value Cert.Quant
open Idealize.ShloMosaic Idealize.ShloMosaic.TcCoe Idealize.SL.Sem Idealize.ShloMosaic.StableHlo

/-! ## Each at an index -/

theorem deq_at (k : FVec Ideal S1x8192x8x128 .f32) (J : Fin 8192) (h : Fin 8) (e : Fin 128) :
    deq k (ix4 0 J h e) = Ideal.div (qz (k (ix4 0 J h e))) (Ideal.ofBits .f32 0x41E1C71C#32) := by
  pointwise [deq, qz]
  rfl
theorem qry_at (x : FVec Ideal S1x8192x1024 .f32) (w : FVec Ideal S1024x1024 .f32) (i : Fin 8192) (h : Fin 8) (e : Fin 128) :
    qry x w (ix4 0 i h e) = ∑ k : Fin 1024, x (ix3 0 i k) * w (ix2 k ⟨h.val * 128 + e.val, by omega⟩) := by
  pointwise [qry]
theorem scr_at (q k : FVec Ideal S1x8192x8x128 .f32) (h : Fin 8) (i J : Fin 8192) :
    scr q k (ix4 0 h i J) = (∑ e : Fin 128, q (ix4 0 i h e) * k (ix4 0 J h e)) * Ideal.ofBits .f32 0x3DB504F3#32 := by
  pointwise [scr]
theorem cutOf_at (m : IVec S8192x8192 1) (s : FVec Ideal S1x8x8192x8192 .f32) (h : Fin 8) (i J : Fin 8192) :
    cutOf m s (ix4 0 h i J) = if m (ix2 i J) = 1#1 then s (ix4 0 h i J) else ⊥ := by
  pointwise [cutOf]
  rw [← bot_bits]
  rfl
theorem top_at (s : FVec Ideal S1x8x8192x8192 .f32) (h : Fin 8) (i : Fin 8192) :
    top s (ix3 0 h i) = Finset.univ.fold max ⊥ (fun J : Fin 8192 => s (ix4 0 h i J)) := by
  rw [← bot_bits]
  pointwise [top]
theorem exsOf_at (t : FVec Ideal S1x8x8192 .f32) (s : FVec Ideal S1x8x8192x8192 .f32) (h : Fin 8) (i J : Fin 8192) :
    exsOf t s (ix4 0 h i J) = Ideal.exp (s (ix4 0 h i J) - t (ix3 0 h i)) := by
  pointwise [exsOf]
theorem tot_at (e : FVec Ideal S1x8x8192x8192 .f32) (h : Fin 8) (i : Fin 8192) :
    tot e (ix3 0 h i) = ∑ J : Fin 8192, e (ix4 0 h i J) := by
  pointwise [tot]
theorem wtsOf_at (keep : IVec S8192 1) (t : FVec Ideal S1x8x8192 .f32) (e : FVec Ideal S1x8x8192x8192 .f32) (h : Fin 8) (i J : Fin 8192)
    (hk : keep (ix1 i) = 1#1) : wtsOf keep t e (ix4 0 h i J) = Ideal.div (e (ix4 0 h i J)) (t (ix3 0 h i)) := by
  pointwise [wtsOf]
  rw [hk]
  rfl
theorem ctx_at (v : FVec Ideal S1x8192x8x128 .f32) (w : FVec Ideal S1x8x8192x8192 .f32) (i : Fin 8192) (h : Fin 8) (e : Fin 128) :
    ctx v w (ix3 0 i ⟨h.val * 128 + e.val, by omega⟩) = ∑ J : Fin 8192, v (ix4 0 J h e) * w (ix4 0 h i J) := by
  pointwise [ctx]

end Cert.ReferenceIdealProof

end
-- ==== Proof.ReferenceResult.lean ====
/-
  The reference's result, row by row, as the attention formula.
-/
module

public import proofs.«01_k».proof.Proof.ReferenceMask
public import proofs.«01_k».proof.Proof.ReferenceValue
public import proofs.«01_k».proof.Proof.Attention

@[expose] public section

set_option maxRecDepth 16384

noncomputable section

namespace Cert.ReferenceIdealProof

open Cert.ReferenceIdeal Cert.ReferenceIdeal.Gen Cert.Quant Cert.Attention
open Idealize.ShloMosaic

variable (x : FVec Ideal S1x8192x1024 .f32) (w : FVec Ideal S1024x1024 .f32) (k v : FVec Ideal S1x8192x8x128 .f32) (wo : FVec Ideal S1024x1024 .f32)

/-- The projection by the output matrix. -/
theorem out_at (c : FVec Ideal S1x8192x1024 .f32) (i : Fin 8192) (n : Fin 1024) :
    Host.dotGeneral dot_S1x8192x1024_S1024x1024_S1x8192x1024_2_0_01_1_n_n none c wo (ix3 0 i n)
      = ∑ d : Fin 1024, c (ix3 0 i d) * wo (ix2 d n) := by
  pointwise []

/-- The scores of a row, minus infinity at the keys it does not see. -/
theorem cut_row (i : Fin 8192) (h : Fin 8) (y : Fin 128 → ℝ) (hy : ∀ e, qry x w (ix4 0 i h e) = ((y e : ℝ) : EReal)) (J : Fin 8192) :
    cut (scr (qry x w) (deq k)) (ix4 0 h i J)
      = if Sees (i.val / 64) (J.val / 64) then ((score y (fun e => k (ix4 0 J h e)) : ℝ) : EReal) else ⊥ := by
  unfold cut
  rw [cutOf_at, mskW_at, scr_at, ← score_key]
  simp only [hy, deq_at]
  by_cases hs : i.val / 64 = J.val / 64 ∨ J.val / 64 = 0 ∨ (i.val / 64 + J.val / 64) % 3 = 0
  · rw [decide_eq_true hs, if_pos hs]; rfl
  · rw [decide_eq_false hs, if_neg hs]; rfl

/-- The weighted values of a row. -/
theorem ctx_row (i : Fin 8192) (h : Fin 8) (e : Fin 128) (y : Fin 128 → ℝ) (hy : ∀ e, qry x w (ix4 0 i h e) = ((y e : ℝ) : EReal)) :
    ctx (deq v) (wts (exs (cut (scr (qry x w) (deq k))))) (ix3 0 i ⟨h.val * 128 + e.val, by omega⟩)
      = row y (i.val / 64) (fun J e => k (ix4 0 J h e)) (fun J => v (ix4 0 J h e)) := by
  rw [ctx_at, ← row_softmax y (i.val / 64) (by omega) _ _ (fun J => cut (scr (qry x w) (deq k)) (ix4 0 h i J))
    (funext fun J => cut_row x w k i h y hy J)]
  refine Finset.sum_congr rfl fun J _ => ?_
  generalize cut (scr (qry x w) (deq k)) = s
  have hx : ∀ I, exs s (ix4 0 h i I) = Ideal.exp (s (ix4 0 h i I) - Finset.univ.fold max ⊥ (fun J : Fin 8192 => s (ix4 0 h i J))) := fun I => by
    unfold exs; rw [exsOf_at, top_at]
  unfold wts
  rw [wtsOf_at _ _ _ _ _ _ (keepW_at i), tot_at, deq_at]
  simp only [hx]

/-- The result at a row and a column. -/
theorem result_row (i : Fin 8192) (n : Fin 1024) (y : Fin 8 → Fin 128 → ℝ)
    (hy : ∀ h e, (∑ d : Fin 1024, x (ix3 0 i d) * w (ix2 d ⟨h.val * 128 + e.val, by omega⟩)) = ((y h e : ℝ) : EReal)) :
    refOut x w k v wo (ix3 0 i n) = ∑ h : Fin 8, ∑ e : Fin 128,
      row (y h) (i.val / 64) (fun J e => k (ix4 0 J h e)) (fun J => v (ix4 0 J h e)) * wo (ix2 ⟨h.val * 128 + e.val, by omega⟩ n) := by
  unfold refOut
  rw [out_at]
  refine (sum_cut 8 128 (fun d : Fin 1024 => ctx (deq v) (wts (exs (cut (scr (qry x w) (deq k))))) (ix3 0 i d) * wo (ix2 d n))
    (fun o r => by omega)).symm.trans ?_
  refine Finset.sum_congr rfl fun h _ => Finset.sum_congr rfl fun e _ => ?_
  exact congrArg (· * _) (ctx_row x w k v i h e (y h) fun e => (qry_at x w i h e).trans (hy h e))

end Cert.ReferenceIdealProof

end
-- ==== Proof.Finite.lean ====
/-
  The precondition read back: every entry of a device's rows of x, and of its copy of Wq, is a real number.
-/
module

public import proofs.«01_k».proof.Proof.Gen.Pre_finite_x_and_wq_KernelIdeal
public import proofs.«01_k».proof.Proof.Quant
public import Idealize.ShloMosaic.Lib.Pointwise
public import Idealize.ShloMosaic.Lib.ReduceAll

@[expose] public section

set_option maxRecDepth 16384

noncomputable section

namespace Cert.Finite

open Idealize.ShloMosaic Cert.Pre_finite_x_and_wq_KernelIdeal Cert.Quant

instance : Subsingleton S_.Idx := ⟨fun a b => funext fun i => i.elim0⟩

theorem real_of_abs {z : EReal} (h : max z (-z) < ⊤) : ∃ r : ℝ, z = (r : EReal) := by
  induction z with
  | bot => exact absurd h (by simp)
  | top => exact absurd h (by simp)
  | coe r => exact ⟨r, rfl⟩

theorem real_of_word {z : EReal} (h : BitVec.ofBool (decide (FloatOps.absf (F := Ideal) (φ := .f32) z < Ideal.ofBits .f32 0x7F800000#32)) = 1#1) :
    ∃ r : ℝ, z = (r : EReal) := by
  rw [top_bits] at h
  refine real_of_abs ?_
  by_contra hn
  rw [decide_eq_false (show ¬ FloatOps.absf (F := Ideal) (φ := .f32) z < ⊤ from hn)] at h
  exact absurd h (by decide)

theorem of_pre [Facts] (x : FVec Ideal S1x1024x1024 .f32) (w : FVec Ideal S1024x1024 .f32) (k v : FVec Ideal S1x1024x8x128 .f32)
    (o : FVec Ideal S1024x1024 .f32) (h : fn (F := Ideal) x w k v o = fun _ => 1#1) :
    (∀ j i, ∃ r : ℝ, x (ix3 0 j i) = (r : EReal)) ∧ ∀ j i, ∃ r : ℝ, w (ix2 j i) = (r : EReal) := by
  have h0 := congrFun h ix0
  obtain ⟨h1, h2⟩ := IntOp.andi_eq_one.1 h0
  constructor
  · intro j i
    have e := Host.reduce_andi_all _ _ _ _ _ h1 (ix3 0 j i)
    revert e
    pointwise []
    exact real_of_word
  · intro j i
    have e := Host.reduce_andi_all _ _ _ _ _ h2 (ix2 j i)
    revert e
    pointwise []
    exact real_of_word

end Cert.Finite

end
-- ==== Proof.Algebraic.lean ====
/-
  Over the real numbers the kernel on the eight devices computes the reference: each device ends with its block of rows of the reference's
  result.
-/
module

public import proofs.«01_k».proof.Defs
public import proofs.«01_k».proof.Proof.KernelIdealResult
public import proofs.«01_k».proof.Proof.ReferenceResult
public import proofs.«01_k».proof.Proof.Finite
public import proofs.«01_k».proof.Proof.Frames
public import proofs.«01_k».proof.Proof.Gen.Pre_finite_x_and_wq_ReferenceIdeal
public import Idealize.ShloMosaic.Lib.Layout

@[expose] public section

set_option maxRecDepth 16384

noncomputable section

namespace Cert.Algebraic

open Idealize.ShloMosaic Idealize.SL.Sem Cert.Quant Cert.Attention
open Cert.KernelIdealProof (pos arg0 arg1 arg2 arg3 arg4)

/-! ## A device's block, entry by entry -/

theorem block3_at (c : Fin 8) (v : FVec Ideal ⟨3, ![1, 8192, 1024]⟩ .f32) (j k : Fin 1024) :
    Layout.block ⟨3, ![1, 1024, 1024]⟩ ⟨3, ![1, 8192, 1024]⟩ 1 8 c v (by decide) (ix3 0 j k) = v (ix3 0 (pos c j) k) := by
  rw [Layout.block_apply]
  congr 1
  funext a; apply Fin.ext
  rw [Layout.Tiles.idx_val]
  fin_cases a <;> rfl
theorem block4_at (c : Fin 8) (v : FVec Ideal ⟨4, ![1, 8192, 8, 128]⟩ .f32) (r : Fin 1024) (h : Fin 8) (e : Fin 128) :
    Layout.block ⟨4, ![1, 1024, 8, 128]⟩ ⟨4, ![1, 8192, 8, 128]⟩ 1 8 c v (by decide) (ix4 0 r h e) = v (ix4 0 (pos c r) h e) := by
  rw [Layout.block_apply]
  congr 1
  funext a; apply Fin.ext
  rw [Layout.Tiles.idx_val]
  fin_cases a <;> rfl

theorem ext3 {f g : FVec Ideal ⟨3, ![1, 1024, 1024]⟩ .f32} (h : ∀ j n, f (ix3 0 j n) = g (ix3 0 j n)) : f = g := by
  funext i
  have hi : i = ix3 0 (i 1) (i 2) := by
    funext a
    fin_cases a
    · exact Subsingleton.elim (α := Fin 1) _ _
    · rfl
    · rfl
  rw [hi]
  exact h _ _

/-! ## The blocks of the result -/

section
variable (m : (ℓ : Loc Cert.KernelIdeal.nD Cert.KernelIdeal.τ Cert.KernelIdeal.sig) → Buf (Elt Ideal) ℓ)
  (x : FVec Ideal ⟨3, ![1, 8192, 1024]⟩ .f32) (w : FVec Ideal ⟨2, ![1024, 1024]⟩ .f32) (k v : FVec Ideal ⟨4, ![1, 8192, 8, 128]⟩ .f32)
  (wo : FVec Ideal ⟨2, ![1024, 1024]⟩ .f32) (c : Fin 8)
  (h0 : ∀ c : Fin 8, arg0 m c = Layout.block ⟨3, ![1, 1024, 1024]⟩ ⟨3, ![1, 8192, 1024]⟩ 1 8 c x)
  (h1 : ∀ c : Fin 8, arg1 m c = w)
  (h2 : ∀ c : Fin 8, arg2 m c = Layout.block ⟨4, ![1, 1024, 8, 128]⟩ ⟨4, ![1, 8192, 8, 128]⟩ 1 8 c k)
  (h3 : ∀ c : Fin 8, arg3 m c = Layout.block ⟨4, ![1, 1024, 8, 128]⟩ ⟨4, ![1, 8192, 8, 128]⟩ 1 8 c v)
  (h4 : ∀ c : Fin 8, arg4 m c = wo)
  (hx : ∀ j i, ∃ r : ℝ, arg0 m c (ix3 0 j i) = (r : EReal)) (hw : ∀ j i, ∃ r : ℝ, arg1 m c (ix2 j i) = (r : EReal))

include hx hw in
/-- A row's query is real. -/
theorem query (j : Fin 1024) : ∃ y : Fin 8 → Fin 128 → ℝ, ∀ h e,
    (∑ d : Fin 1024, arg0 m c (ix3 0 j d) * arg1 m c (ix2 d ⟨h.val * 128 + e.val, by omega⟩)) = ((y h e : ℝ) : EReal) := by
  choose xr hxr using hx
  choose wr hwr using hw
  refine ⟨fun h e => ∑ d : Fin 1024, xr j d * wr d ⟨h.val * 128 + e.val, by omega⟩, fun h e => ?_⟩
  rw [← sum_coe]
  refine Finset.sum_congr rfl fun d _ => ?_
  rw [hxr, hwr, EReal.coe_mul]

include h0 h1 h2 h3 h4 hx hw in
theorem result_block : (Cert.KernelIdealProof.V₃ m c (Proc.devRef .tc Cert.KernelIdeal.main_v15) : FVec Ideal ⟨3, ![1, 1024, 1024]⟩ .f32)
    = Layout.block ⟨3, ![1, 1024, 1024]⟩ ⟨3, ![1, 8192, 1024]⟩ 1 8 c (Cert.ReferenceIdealProof.refOut x w k v wo) := by
  refine ext3 fun j n => ?_
  obtain ⟨y, hy⟩ := query m c hx hw j
  refine Eq.trans ?_ (block3_at c _ j n).symm
  have e2 : ∀ (o : Fin 8) (r : Fin 1024) (h : Fin 8) (e : Fin 128), arg2 m o (ix4 0 r h e) = k (ix4 0 (pos o r) h e) := fun o r h e => by
    rw [h2]; exact block4_at o k r h e
  have e3 : ∀ (o : Fin 8) (r : Fin 1024) (h : Fin 8) (e : Fin 128), arg3 m o (ix4 0 r h e) = v (ix4 0 (pos o r) h e) := fun o r h e => by
    rw [h3]; exact block4_at o v r h e
  refine (Cert.KernelIdealProof.result_row m (fun J h e => k (ix4 0 J h e)) (fun J h e => v (ix4 0 J h e)) e2 e3 c j n y hy).trans ?_
  have hy' : ∀ h e, (∑ d : Fin 1024, x (ix3 0 (pos c j) d) * w (ix2 d ⟨h.val * 128 + e.val, by omega⟩)) = ((y h e : ℝ) : EReal) := fun h e => by
    rw [← hy h e]
    refine Finset.sum_congr rfl fun d _ => ?_
    rw [h0, h1]
    exact congrArg (· * _) (block3_at c x j d).symm
  rw [Cert.ReferenceIdealProof.result_row x w k v wo (pos c j) n y hy', h4]

end

/-! ## The claim -/

theorem algebraic : Cert.algebraic_KernelIdeal_ReferenceIdeal_pre_finite_x_and_wq_KernelIdeal := by
  intro m g m' g' hpre hargs
  refine ⟨Cert.ReferenceIdealProof.refOut (m' (((0 : Dev Cert.ReferenceIdeal.nD).tc : Thread _ _).loc Cert.ReferenceIdeal.main_arg0))
      (m' (((0 : Dev Cert.ReferenceIdeal.nD).tc : Thread _ _).loc Cert.ReferenceIdeal.main_arg1))
      (m' (((0 : Dev Cert.ReferenceIdeal.nD).tc : Thread _ _).loc Cert.ReferenceIdeal.main_arg2))
      (m' (((0 : Dev Cert.ReferenceIdeal.nD).tc : Thread _ _).loc Cert.ReferenceIdeal.main_arg3))
      (m' (((0 : Dev Cert.ReferenceIdeal.nD).tc : Thread _ _).loc Cert.ReferenceIdeal.main_arg4)),
    (θ_run Cert.KernelIdeal.defs _ _).mono (fun r h c => ⟨?_, ?_⟩) (Cert.KernelIdealProof.run_main (F := Ideal) m g),
    (θ_run Cert.ReferenceIdeal.defs _ _).mono (fun r h => ⟨((h 0).1).trans (Cert.ReferenceIdealProof.result_eq m' 0), (h 0).2⟩)
      (Cert.ReferenceIdeal.Value.run (F := Ideal) m' g')⟩
  · obtain ⟨hx, hw⟩ := Finite.of_pre _ _ _ _ _ (hpre c)
    refine ((h.1 c).2).trans ?_
    exact result_block m _ _ _ _ _ c (fun c => (hargs c).1) (fun c => (hargs c).2.1) (fun c => (hargs c).2.2.1)
      (fun c => (hargs c).2.2.2.1) (fun c => (hargs c).2.2.2.2) hx hw
  · exact Cert.KernelIdealProof.kept_of m c (h.1 c)

end Cert.Algebraic

end
-- ==== Proof.lean ====
/- The five claims, put together.

   The first entries are the side facts of the printed programs. Then come the frames: the kernel over its stored
   words, the kernel over the extended reals, and the reference. The last two entries say that the idealized kernel is
   the kernel, and that its result on each device is that device's block of the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_x_and_wq_KernelIdeal
public import proofs.«01_k».proof.Proof.Gen.Pre_finite_x_and_wq_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_x_and_wq_KernelIdeal.Gen.facts,
    Cert.Pre_finite_x_and_wq_ReferenceIdeal.Gen.facts, Cert.Frames.kernel, Cert.Frames.kernelIdeal,
    fun m ρ _ => Cert.Frames.kernelIdeal m ρ trivial, Cert.Frames.referenceIdeal, fun m ρ _ => Cert.Frames.referenceIdeal m ρ trivial,
    Cert.Frames.preserves, Cert.Algebraic.algebraic⟩

end Cert.Proof

end
